-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S256x512 : Shape := ⟨2, ![256, 512]⟩
abbrev S256 : Shape := ⟨1, ![256]⟩
abbrev S1x256 : Shape := ⟨2, ![1, 256]⟩
abbrev S1 : Shape := ⟨1, ![1]⟩
abbrev S512x256 : Shape := ⟨2, ![512, 256]⟩
abbrev S512 : Shape := ⟨1, ![512]⟩
abbrev S_ : Shape := ⟨0, ![]⟩

class Facts : Prop where
  bcast_S_S16384x512 : S_.BroadcastsInDim S16384x512 (![] : Fin 0 → Fin S16384x512.rank)
  bcast_S_S16384 : S_.BroadcastsInDim S16384 (![] : Fin 0 → Fin S16384.rank)

variable [Facts]

def fn {F : FTy → Type} [FloatOps F] (main_arg0 : FVec F S16384x512 .f32) (main_arg1 : FVec F S16384 .f32) (main_arg2 : FVec F S256x512 .f32) (main_arg3 : FVec F S256 .f32) (main_arg4 : FVec F S1x256 .f32) (main_arg5 : FVec F S1 .f32) (main_arg6 : FVec F S256x512 .f32) (main_arg7 : FVec F S256 .f32) (main_arg8 : FVec F S512x256 .f32) (main_arg9 : FVec F S512 .f32) : IVec S16384x512 1 × IVec S16384 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_cst_0 : FVec F S_ .f32 := constant S_ .f32 0x00000000#32
  let main_v3 : FVec F S16384 .f32 := broadcastInDim S16384 ![] bcast_S_S16384 main_cst_0
  let main_v4 : IVec S16384 1 := cmpf .oge main_arg1 main_v3
  let main_cst_1 : FVec F S_ .f32 := constant S_ .f32 0x7F800000#32
  let main_v5 : FVec F S16384 .f32 := broadcastInDim S16384 ![] bcast_S_S16384 main_cst_1
  let main_v6 : IVec S16384 1 := cmpf .olt main_arg1 main_v5
  let main_v7 : IVec S16384 1 := andi main_v4 main_v6
  (main_v2, main_v7)
-- ==== Kernel.lean ====
abbrev S16384x512 : Shape := ⟨2, ![16384, 512]⟩
abbrev S16384 : Shape := ⟨1, ![16384]⟩
abbrev S256x512 : Shape := ⟨2, ![256, 512]⟩
abbrev S256 : Shape := ⟨1, ![256]⟩
abbrev S1x256 : Shape := ⟨2, ![1, 256]⟩
abbrev S1 : Shape := ⟨1, ![1]⟩
abbrev S512x256 : Shape := ⟨2, ![512, 256]⟩
abbrev S512 : Shape := ⟨1, ![512]⟩
abbrev S1x16384 : Shape := ⟨2, ![1, 16384]⟩
abbrev S256x1 : Shape := ⟨2, ![256, 1]⟩
abbrev S1x1 : Shape := ⟨2, ![1, 1]⟩
abbrev S1x512 : Shape := ⟨2, ![1, 512]⟩
abbrev S2 : Shape := ⟨1, ![2]⟩
abbrev S_ : Shape := ⟨0, ![]⟩
abbrev S2048x512 : Shape := ⟨2, ![2048, 512]⟩
abbrev S1x2048 : Shape := ⟨2, ![1, 2048]⟩
abbrev S256x2048 : Shape := ⟨2, ![256, 2048]⟩
abbrev S1x1x2048 : Shape := ⟨3, ![1, 1, 2048]⟩
abbrev S1x1x1 : Shape := ⟨3, ![1, 1, 1]⟩
abbrev S1024x512 : Shape := ⟨2, ![1024, 512]⟩

abbrev nBuf : Space → Nat
  | .hbm => 17
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384, .f32⟩
  | .hbm, ⟨2, _⟩ => ⟨S256x512, .f32⟩
  | .hbm, ⟨3, _⟩ => ⟨S256, .f32⟩
  | .hbm, ⟨4, _⟩ => ⟨S1x256, .f32⟩
  | .hbm, ⟨5, _⟩ => ⟨S1, .f32⟩
  | .hbm, ⟨6, _⟩ => ⟨S256x512, .f32⟩
  | .hbm, ⟨7, _⟩ => ⟨S256, .f32⟩
  | .hbm, ⟨8, _⟩ => ⟨S512x256, .f32⟩
  | .hbm, ⟨9, _⟩ => ⟨S512, .f32⟩
  | .hbm, ⟨10, _⟩ => ⟨S256x512, .bf16⟩
  | .hbm, ⟨11, _⟩ => ⟨S1x16384, .f32⟩
  | .hbm, ⟨12, _⟩ => ⟨S256x1, .f32⟩
  | .hbm, ⟨13, _⟩ => ⟨S1x1, .f32⟩
  | .hbm, ⟨14, _⟩ => ⟨S1x256, .f32⟩
  | .hbm, ⟨15, _⟩ => ⟨S1x512, .f32⟩
  | .hbm, ⟨16, _⟩ => ⟨S16384x512, .f32⟩
  | .local _ .vmem, ⟨0, _⟩ => ⟨S1x16384, .f32⟩
  | .local _ .vmem, ⟨1, _⟩ => ⟨S256x512, .bf16⟩
  | .local _ .vmem, ⟨2, _⟩ => ⟨S256x1, .f32⟩
  | .local _ .vmem, ⟨3, _⟩ => ⟨S1x256, .f32⟩
  | .local _ .vmem, ⟨4, _⟩ => ⟨S1x1, .f32⟩
  | .local _ .vmem, ⟨5, _⟩ => ⟨S256x512, .f32⟩
  | .local _ .vmem, ⟨6, _⟩ => ⟨S1x256, .f32⟩
  | .local _ .vmem, ⟨7, _⟩ => ⟨S512x256, .f32⟩
  | .local _ .vmem, ⟨8, _⟩ => ⟨S1x512, .f32⟩
  | .local _ .vmem, ⟨9, _⟩ => ⟨S16384x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S16384x512 : Shape := ⟨2, ![16384, 512]⟩
abbrev S16384 : Shape := ⟨1, ![16384]⟩
abbrev S256x512 : Shape := ⟨2, ![256, 512]⟩
abbrev S256 : Shape := ⟨1, ![256]⟩
abbrev S1x256 : Shape := ⟨2, ![1, 256]⟩
abbrev S1 : Shape := ⟨1, ![1]⟩
abbrev S512x256 : Shape := ⟨2, ![512, 256]⟩
abbrev S512 : Shape := ⟨1, ![512]⟩
abbrev S16384x256 : Shape := ⟨2, ![16384, 256]⟩
abbrev S_ : Shape := ⟨0, ![]⟩
abbrev S256x1 : Shape := ⟨2, ![256, 1]⟩
abbrev S16384x1 : Shape := ⟨2, ![16384, 1]⟩
abbrev S1x1 : Shape := ⟨2, ![1, 1]⟩
abbrev S65536x512 : Shape := ⟨2, ![65536, 512]⟩
abbrev S65536 : Shape := ⟨1, ![65536]⟩
abbrev S65536x1 : Shape := ⟨2, ![65536, 1]⟩
abbrev S512x1 : Shape := ⟨2, ![512, 1]⟩
abbrev S1x512 : Shape := ⟨2, ![1, 512]⟩

abbrev nBuf : Space → Nat
  | .hbm => 141
  | .vmem => 0
  | .smem => 0
  | _ => 0

abbrev hbmTy0_0 (i : Nat) : BufTy := match i % 128 with
  | 0 => ⟨S16384x512, .f32⟩
  | 1 => ⟨S16384, .f32⟩
  | 2 => ⟨S256x512, .f32⟩
  | 3 => ⟨S256, .f32⟩
  | 4 => ⟨S1x256, .f32⟩
  | 5 => ⟨S1, .f32⟩
  | 6 => ⟨S256x512, .f32⟩
  | 7 => ⟨S256, .f32⟩
  | 8 => ⟨S512x256, .f32⟩
  | 9 => ⟨S512, .f32⟩
  | 10 => ⟨S512x256, .f32⟩
  | 11 => ⟨S16384x256, .f32⟩
  | 12 => ⟨S1x256, .f32⟩
  | 13 => ⟨S16384x256, .f32⟩
  | 14 => ⟨S16384x256, .f32⟩
  | 15 => ⟨S_, .f32⟩
  | 16 => ⟨S16384x256, .f32⟩
  | 17 => ⟨S16384x256, .f32⟩
  | 18 => ⟨S256x1, .f32⟩
  | 19 => ⟨S16384x1, .f32⟩
  | 20 => ⟨S1x1, .f32⟩
  | 21 => ⟨S16384x1, .f32⟩
  | 22 => ⟨S16384x1, .f32⟩
  | 23 => ⟨S16384x1, .f32⟩
  | 24 => ⟨S16384x1, .f32⟩
  | 25 => ⟨S_, .f32⟩
  | 26 => ⟨S16384x1, .f32⟩
  | 27 => ⟨S16384x1, .f32⟩
  | 28 => ⟨S_, .f32⟩
  | 29 => ⟨S16384x1, .f32⟩
  | 30 => ⟨S16384x1, .f32⟩
  | 31 => ⟨S16384, .f32⟩
  | 32 => ⟨S_, .f32⟩
  | 33 => ⟨S16384, .f32⟩
  | 34 => ⟨S16384, .i1⟩
  | 35 => ⟨S16384, .i32⟩
  | 36 => ⟨S_, .i32⟩
  | 37 => ⟨S_, .i32⟩
  | 38 => ⟨S16384, .i32⟩
  | 39 => ⟨S_, .i32⟩
  | 40 => ⟨S16384, .i32⟩
  | 41 => ⟨S16384, .i32⟩
  | 42 => ⟨S_, .i32⟩
  | 43 => ⟨S_, .i32⟩
  | 44 => ⟨S16384, .i32⟩
  | 45 => ⟨S16384, .i32⟩
  | 46 => ⟨S_, .f32⟩
  | 47 => ⟨S65536x512, .f32⟩
  | 48 => ⟨S_, .i32⟩
  | 49 => ⟨S16384, .i32⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S65536x512, .f32⟩
  | 57 => ⟨S_, .f32⟩
  | 58 => ⟨S65536, .f32⟩
  | 59 => ⟨S_, .i32⟩
  | 60 => ⟨S16384, .i32⟩
  | 61 => ⟨S16384, .i1⟩
  | 62 => ⟨S_, .i32⟩
  | 63 => ⟨S16384, .i32⟩
  | 64 => ⟨S16384, .i32⟩
  | 65 => ⟨S16384, .i32⟩
  | 66 => ⟨S16384x1, .i32⟩
  | 67 => ⟨S65536, .f32⟩
  | 68 => ⟨S16384, .i32⟩
  | 69 => ⟨S_, .i32⟩
  | 70 => ⟨S_, .i32⟩
  | 71 => ⟨S65536, .i32⟩
  | 72 => ⟨S65536, .i32⟩
  | 73 => ⟨S65536, .i1⟩
  | 74 => ⟨S_, .f32⟩
  | 75 => ⟨S_, .f32⟩
  | 76 => ⟨S65536, .f32⟩
  | 77 => ⟨S65536, .f32⟩
  | 78 => ⟨S_, .f32⟩
  | 79 => ⟨S_, .f32⟩
  | 80 => ⟨S65536, .f32⟩
  | 81 => ⟨S65536, .f32⟩
  | 82 => ⟨S65536, .f32⟩
  | 83 => ⟨S65536, .f32⟩
  | 84 => ⟨S65536, .f32⟩
  | 85 => ⟨S_, .f32⟩
  | 86 => ⟨S_, .f32⟩
  | 87 => ⟨S_, .f32⟩
  | 88 => ⟨S_, .f32⟩
  | 89 => ⟨S65536, .f32⟩
  | 90 => ⟨S65536, .f32⟩
  | 91 => ⟨S65536x1, .f32⟩
  | 92 => ⟨S65536x512, .f32⟩
  | 93 => ⟨S65536x512, .f32⟩
  | 94 => ⟨S_, .f32⟩
  | 95 => ⟨S512, .f32⟩
  | 96 => ⟨S512x1, .f32⟩
  | 97 => ⟨S16384x1, .f32⟩
  | 98 => ⟨S_, .f32⟩
  | 99 => ⟨S16384, .f32⟩
  | 100 => ⟨S_, .f32⟩
  | 101 => ⟨S16384, .f32⟩
  | 102 => ⟨S16384, .f32⟩
  | 103 => ⟨S16384x1, .f32⟩
  | 104 => ⟨S16384x1, .f32⟩
  | 105 => ⟨S16384x1, .f32⟩
  | 106 => ⟨S_, .f32⟩
  | 107 => ⟨S16384, .f32⟩
  | 108 => ⟨S16384x1, .f32⟩
  | 109 => ⟨S16384x1, .f32⟩
  | 110 => ⟨S1x512, .f32⟩
  | 111 => ⟨S16384x512, .f32⟩
  | 112 => ⟨S16384x512, .f32⟩
  | 113 => ⟨S16384x512, .f32⟩
  | 114 => ⟨S512x256, .f32⟩
  | 115 => ⟨S16384x256, .f32⟩
  | 116 => ⟨S1x256, .f32⟩
  | 117 => ⟨S16384x256, .f32⟩
  | 118 => ⟨S16384x256, .f32⟩
  | 119 => ⟨S_, .f32⟩
  | 120 => ⟨S16384x256, .f32⟩
  | 121 => ⟨S16384x256, .f32⟩
  | 122 => ⟨S256x512, .f32⟩
  | 123 => ⟨S16384x512, .f32⟩
  | 124 => ⟨S1x512, .f32⟩
  | 125 => ⟨S16384x512, .f32⟩
  | 126 => ⟨S16384x512, .f32⟩
  | 127 => ⟨S16384x512, .f32⟩
  | _ => ⟨S16384x512, .f32⟩

abbrev hbmTy0_1 (i : Nat) : BufTy := match i % 128 with
  | 0 => ⟨S16384x512, .f32⟩
  | 1 => ⟨S_, .f32⟩
  | 2 => ⟨S16384x512, .f32⟩
  | 3 => ⟨S16384x512, .f32⟩
  | 4 => ⟨S_, .f32⟩
  | 5 => ⟨S16384x512, .f32⟩
  | 6 => ⟨S16384x512, .f32⟩
  | 7 => ⟨S_, .i32⟩
  | 8 => ⟨S_, .i1⟩
  | 9 => ⟨S_, .f32⟩
  | 10 => ⟨S16384x512, .f32⟩
  | 11 => ⟨S16384x512, .f32⟩
  | 12 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_call0_c : Ref sig .tc := ⟨.hbm, 36, rfl⟩
abbrev main_call1_call0_v0 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_call2_v0 : Ref sig .tc := ⟨.hbm, 43, rfl⟩
abbrev main_call2_v1 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_call3_v0 : Ref sig .tc := ⟨.hbm, 75, rfl⟩
abbrev main_call3_v1 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_cst_13 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_14 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_15 : Ref sig .tc := ⟨.hbm, 98, rfl⟩
abbrev main_v63 : Ref sig .tc := ⟨.hbm, 99, rfl⟩
abbrev main_cst_16 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_17 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call4_cst : Ref sig .tc := ⟨.hbm, 119, rfl⟩
abbrev main_call4_v0 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_18 : Ref sig .tc := ⟨.hbm, 129, rfl⟩
abbrev main_v89 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_v92 : Ref sig .tc := ⟨.hbm, 134, rfl⟩
abbrev main_c_20 : Ref sig .tc := ⟨.hbm, 135, rfl⟩
abbrev main_v93 : Ref sig .tc := ⟨.hbm, 136, rfl⟩
abbrev main_cst_21 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩

abbrev nD : Nat := 1
abbrev τ : Topo := Topo.v7x

variable {F : FTy → Type} [FloatOps F]
-- ==== Proof.KernelIdealBody.lean ====
/- The body of the kernel run symbolically: the copies in, the eight row tiles, the sixteen output chunks and the copies out. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Batch
public import Idealize.ShloMosaic.Lib.Tactic
public import Idealize.ShloMosaic.Lib.Pipeline.FrameValue

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- The array x, where the launch left it. -/
abbrev mX : Memref sig .tc .hbm S16384x512 .f32 := Memref.whole main_arg0
/-- The result. -/
abbrev mO : Memref sig .tc .hbm S16384x512 .f32 := Memref.whole main_v0
/-- The scratch buffer that holds x while the body runs. -/
abbrev mB : Memref sig .tc .vmem S16384x512 .f32 := Memref.whole cc0_scratch0
/-- The staging buffer of window 0: the importances. -/
abbrev m1 : Memref sig .tc .vmem S1x16384 .f32 := Memref.whole cc0_stg0_0
/-- The staging buffer of window 1: the first score layer. -/
abbrev m2 : Memref sig .tc .vmem S256x512 .bf16 := Memref.whole cc0_stg1_0
/-- The staging buffer of window 2: its bias. -/
abbrev m3 : Memref sig .tc .vmem S256x1 .f32 := Memref.whole cc0_stg2_0
/-- The staging buffer of window 3: the second score layer. -/
abbrev m4 : Memref sig .tc .vmem S1x256 .f32 := Memref.whole cc0_stg3_0
/-- The staging buffer of window 4: its bias. -/
abbrev m5 : Memref sig .tc .vmem S1x1 .f32 := Memref.whole cc0_stg4_0
/-- The staging buffer of window 5: the first readout layer. -/
abbrev m6 : Memref sig .tc .vmem S256x512 .f32 := Memref.whole cc0_stg5_0
/-- The staging buffer of window 6: its bias. -/
abbrev m7 : Memref sig .tc .vmem S1x256 .f32 := Memref.whole cc0_stg6_0
/-- The staging buffer of window 7: the second readout layer. -/
abbrev m8 : Memref sig .tc .vmem S512x256 .f32 := Memref.whole cc0_stg7_0
/-- The staging buffer of window 8: its bias. -/
abbrev m9 : Memref sig .tc .vmem S1x512 .f32 := Memref.whole cc0_stg8_0

/-- The contents of a buffer on a device. -/
abbrev HB (c : Dev nD) {sp : Space} {S : Shape} {e : EltTy} (M : Memref sig .tc sp S e) : Type := Buf (Elt F) (M.view.loc (c : Thread nD τ))
/-- A buffer held whole, with its contents. -/
abbrev pt (c : Dev nD) {sp : Space} {S : Shape} {e : EltTy} (M : Memref sig .tc sp S e) (f : HB (F := F) c M) : sProp 𝕄 :=
  M.view.loc (c : Thread nD τ) ↦{fullShare} f

/-- The body's run: with the array, the nine staged inputs, the result's buffer and the scratch buffer
    held whole and its three counters at zero, the body runs to the end, gives everything back, and
    leaves in the result's buffer the chunks the run found. -/
def kernelRun (c : Dev nD) (fx : HB (F := F) c mX) (f1 : HB (F := F) c m1) (f2 : HB (F := F) c m2) (f3 : HB (F := F) c m3)
    (f4 : HB (F := F) c m4) (f5 : HB (F := F) c m5) (f6 : HB (F := F) c m6) (f7 : HB (F := F) c m7) (f8 : HB (F := F) c m8) (f9 : HB (F := F) c m9)
    (_plan : Transfers.BatchOf (c : Thread nD τ) (SemLoc.dma (sig := sig) 11) 16 (windows := true)) :
    { L : HB (F := F) c mB → List (View.Piece (Elt F) S16384x512 .f32) //
      ∀ (fo : HB (F := F) c mO) (fb : HB (F := F) c mB) (W : Waits sig Unit) (K : PUnit → sProp 𝕄),
        iprop(pt c mX fx ∗ pt c m1 f1 ∗ pt c m2 f2 ∗ pt c m3 f3 ∗ pt c m4 f4 ∗ pt c m5 f5 ∗ pt c m6 f6 ∗ pt c m7 f7 ∗ pt c m8 f8 ∗ pt c m9 f9
            ∗ pt c mO fo ∗ pt c mB fb
            ∗ semVal ((c : Thread nD τ), SemLoc.dma 9) 0 ∗ semVal ((c : Thread nD τ), SemLoc.dma 10) 0
            ∗ semVal ((c : Thread nD τ), SemLoc.dma 11) 0
            ∗ owes (c : Thread nD τ) 0 W
            ∗ (iprop(pt c mX fx ∗ pt c m1 f1 ∗ pt c m2 f2 ∗ pt c m3 f3 ∗ pt c m4 f4 ∗ pt c m5 f5 ∗ pt c m6 f6 ∗ pt c m7 f7 ∗ pt c m8 f8 ∗ pt c m9 f9
            ∗ pt c mO (mO.view.writes (Elt F) fo (L fb)) ∗ (∃ fb, pt c mB fb)
            ∗ semVal ((c : Thread nD τ), SemLoc.dma 9) 0 ∗ semVal ((c : Thread nD τ), SemLoc.dma 10) 0
            ∗ semVal ((c : Thread nD τ), SemLoc.dma 11) 0
                ∗ (∃ W', owes (c : Thread nD τ) 0 W')) -∗ K ⟨⟩))
          ⊢ wp frame (wpE (defs₀ (F := F)) Variants.none c none) Set.univ
              (cc0__fused_kernel mX (Memref.isWhole_whole _) m1 (Memref.isWhole_whole _) m2 (Memref.isWhole_whole _) m3 (Memref.isWhole_whole _)
                m4 (Memref.isWhole_whole _) m5 (Memref.isWhole_whole _) m6 (Memref.isWhole_whole _) m7 (Memref.isWhole_whole _)
                m8 (Memref.isWhole_whole _) m9 (Memref.isWhole_whole _) mO (Memref.isWhole_whole _) mB (Memref.isWhole_whole _)
                cc0_scratch1 cc0_scratch2) K } := by
  refine ⟨?_, fun fo fb W K => ?_⟩
  rotate_left
  · simp only [cc0__fused_kernel_eq_skeleton]; unfold cc0__fused_kernel_skel
    iintro ⟨HX, H1, H2, H3, H4, H5, H6, H7, H8, H9, HO, HB, Hs9, Hs10, Hs11, HW, Hk⟩
    set_option sl_exec.dmaWindow true in
    set_option sl_exec.dmaWindowLent true in
    sl_exec
    sl_step
    iapply Hk
    isplitl [HX]; · iexact HX
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HO]; · iexact HO
    isplitl [HB]; · iexists _; iexact HB
    isplitl [Hs9]; · iexact Hs9
    isplitl [Hs10]; · iexact Hs10
    isplitl [Hs11]; · iexact Hs11
    iexists _; iexact HW

end Cert.KernelIdeal.Hand

end
-- ==== Proof.KernelIdealOut.lean ====
/- What the run of the body leaves in the result, as one function of the arguments. -/
module

public import proofs.«01_k».proof.Proof.KernelIdealBody
public import Idealize.ShloMosaic.Lib.WritesUnit
public import Idealize.ShloMosaic.Lib.Pipeline.Value
public import Idealize.ShloMosaic.Lib.Pointwise.Index

@[expose] public section

set_option maxRecDepth 16384

noncomputable section

namespace Cert.KernelIdeal.Hand

open Idealize.ShloMosaic Idealize.ShloMosaic.TcCoe
open Cert.KernelIdeal.Gen

variable {F : FTy → Type} [FloatOps F]

/-! ## What the kernel computes, as functions of arrays -/

/-- A tile of 2048 consecutive rows of the array. -/
def xTile (x : Vec F S16384x512 .f32) (o : ℕ) (h : ∀ a, (![o, 0] : Fin 2 → ℕ) a + S2048x512.size a ≤ S16384x512.size a) :
    Vec F S2048x512 .f32 := fun y => x ((Rect.unit (s := S16384x512) ![o, 0] S2048x512.size h).emb y)

/-- The importance of the same 2048 rows. -/
def iTile (i : Vec F S1x16384 .f32) (o : ℕ) (h : ∀ a, (![0, o] : Fin 2 → ℕ) a + S1x2048.size a ≤ S1x16384.size a) :
    Vec F S1x2048 .f32 := fun y => i ((Rect.unit (s := S1x16384) ![0, o] S1x2048.size h).emb y)

section
variable (x : Vec F S16384x512 .f32) (i : Vec F S1x16384 .f32) (w1 : Vec F S256x512 .bf16) (b1 : Vec F S256x1 .f32) (w2 : Vec F S1x256 .f32) (b2 : Vec F S1x1 .f32)

/-- The running sum of weights after tile 0. -/
def den0 : F .f32 := k0_pay10 (Scalar.ofBits .f32 0x00000000#32) (xTile x 0 inb_S16384x512_S2048x512_0_0) (iTile i 0 inb_S1x16384_S1x2048_0_0) w1 b1 w2 b2
/-- The running weighted sum of rows after tile 0. -/
def num0 : FVec F S1x512 .f32 := k0_pay11 k0_pay1 (xTile x 0 inb_S16384x512_S2048x512_0_0) (iTile i 0 inb_S1x16384_S1x2048_0_0) w1 b1 w2 b2

/-- The running sum of weights after tile 1. -/
def den1 : F .f32 := k0_pay10 (den0 x i w1 b1 w2 b2) (xTile x 2048 inb_S16384x512_S2048x512_2048_0) (iTile i 2048 inb_S1x16384_S1x2048_0_2048) w1 b1 w2 b2
/-- The running weighted sum of rows after tile 1. -/
def num1 : FVec F S1x512 .f32 := k0_pay11 (num0 x i w1 b1 w2 b2) (xTile x 2048 inb_S16384x512_S2048x512_2048_0) (iTile i 2048 inb_S1x16384_S1x2048_0_2048) w1 b1 w2 b2

/-- The running sum of weights after tile 2. -/
def den2 : F .f32 := k0_pay10 (den1 x i w1 b1 w2 b2) (xTile x 4096 inb_S16384x512_S2048x512_4096_0) (iTile i 4096 inb_S1x16384_S1x2048_0_4096) w1 b1 w2 b2
/-- The running weighted sum of rows after tile 2. -/
def num2 : FVec F S1x512 .f32 := k0_pay11 (num1 x i w1 b1 w2 b2) (xTile x 4096 inb_S16384x512_S2048x512_4096_0) (iTile i 4096 inb_S1x16384_S1x2048_0_4096) w1 b1 w2 b2

/-- The running sum of weights after tile 3. -/
def den3 : F .f32 := k0_pay10 (den2 x i w1 b1 w2 b2) (xTile x 6144 inb_S16384x512_S2048x512_6144_0) (iTile i 6144 inb_S1x16384_S1x2048_0_6144) w1 b1 w2 b2
/-- The running weighted sum of rows after tile 3. -/
def num3 : FVec F S1x512 .f32 := k0_pay11 (num2 x i w1 b1 w2 b2) (xTile x 6144 inb_S16384x512_S2048x512_6144_0) (iTile i 6144 inb_S1x16384_S1x2048_0_6144) w1 b1 w2 b2

/-- The running sum of weights after tile 4. -/
def den4 : F .f32 := k0_pay10 (den3 x i w1 b1 w2 b2) (xTile x 8192 inb_S16384x512_S2048x512_8192_0) (iTile i 8192 inb_S1x16384_S1x2048_0_8192) w1 b1 w2 b2
/-- The running weighted sum of rows after tile 4. -/
def num4 : FVec F S1x512 .f32 := k0_pay11 (num3 x i w1 b1 w2 b2) (xTile x 8192 inb_S16384x512_S2048x512_8192_0) (iTile i 8192 inb_S1x16384_S1x2048_0_8192) w1 b1 w2 b2

/-- The running sum of weights after tile 5. -/
def den5 : F .f32 := k0_pay10 (den4 x i w1 b1 w2 b2) (xTile x 10240 inb_S16384x512_S2048x512_10240_0) (iTile i 10240 inb_S1x16384_S1x2048_0_10240) w1 b1 w2 b2
/-- The running weighted sum of rows after tile 5. -/
def num5 : FVec F S1x512 .f32 := k0_pay11 (num4 x i w1 b1 w2 b2) (xTile x 10240 inb_S16384x512_S2048x512_10240_0) (iTile i 10240 inb_S1x16384_S1x2048_0_10240) w1 b1 w2 b2

/-- The running sum of weights after tile 6. -/
def den6 : F .f32 := k0_pay10 (den5 x i w1 b1 w2 b2) (xTile x 12288 inb_S16384x512_S2048x512_12288_0) (iTile i 12288 inb_S1x16384_S1x2048_0_12288) w1 b1 w2 b2
/-- The running weighted sum of rows after tile 6. -/
def num6 : FVec F S1x512 .f32 := k0_pay11 (num5 x i w1 b1 w2 b2) (xTile x 12288 inb_S16384x512_S2048x512_12288_0) (iTile i 12288 inb_S1x16384_S1x2048_0_12288) w1 b1 w2 b2

/-- The running sum of weights after tile 7. -/
def den7 : F .f32 := k0_pay10 (den6 x i w1 b1 w2 b2) (xTile x 14336 inb_S16384x512_S2048x512_14336_0) (iTile i 14336 inb_S1x16384_S1x2048_0_14336) w1 b1 w2 b2
/-- The running weighted sum of rows after tile 7. -/
def num7 : FVec F S1x512 .f32 := k0_pay11 (num6 x i w1 b1 w2 b2) (xTile x 14336 inb_S16384x512_S2048x512_14336_0) (iTile i 14336 inb_S1x16384_S1x2048_0_14336) w1 b1 w2 b2

/-- The weighted mean of the rows, the divisor kept off zero. -/
def mean : FVec F S1x512 .f32 :=
  divf (num7 x i w1 b1 w2 b2) (broadcast S1x512 (Scalar.maximumf (den7 x i w1 b1 w2 b2) (Scalar.ofBits .f32 0x0DA24260#32)))

variable (r1 : Vec F S256x512 .f32) (rb1 : Vec F S1x256 .f32) (r2 : Vec F S512x256 .f32) (rb2 : Vec F S1x512 .f32)

/-- The row added to every row of the array. -/
def retRow : FVec F S1x512 .f32 := k0_pay41 (den7 x i w1 b1 w2 b2) (mean x i w1 b1 w2 b2) r1 rb1 r2 rb2

/-- The result: the array with the same row added to each of its rows. -/
def result : Vec F S16384x512 .f32 :=
  fun y => FloatOps.addf (x y) (retRow x i w1 b1 w2 b2 r1 rb1 r2 rb2 (ix2 (0 : Fin 1) (y 1 : Fin 512)))
end

/-! ## Reading what a list of row writes leaves -/

/-- Rows `lo` to `hi` hold `g` once the writes `L` are made, whatever was there before. -/
def Agree {κ : Kind} {sp : Space} (v : View sig κ sp S16384x512 .f32) (L : List (View.Piece (Elt F) S16384x512 .f32)) (lo hi : ℕ)
    (g : Vec F S16384x512 .f32) : Prop :=
  ∀ (f : v.ty.Contents (Elt F)) (y : S16384x512.Idx), lo ≤ (y (0 : Fin 2)).val → (y (0 : Fin 2)).val < hi →
    v.read (Elt F) (v.writes (Elt F) f L) y = g y

/-- A write to other rows does not matter. -/
theorem Agree.skip {κ : Kind} {sp : Space} {v : View sig κ sp S16384x512 .f32} {L : List (View.Piece (Elt F) S16384x512 .f32)} {lo hi : ℕ}
    {g : Vec F S16384x512 .f32} {o W : ℕ} {size : Fin 2 → ℕ} {inb : ∀ a : Fin 2, (![o, 0] : Fin 2 → ℕ) a + size a ≤ S16384x512.size a}
    {w : (Rect.unit (s := S16384x512) ![o, 0] size inb).shape.Idx → Elt F .f32}
    (hW : size (0 : Fin 2) = W) (h : hi ≤ o ∨ o + W ≤ lo) (hL : Agree v L lo hi g) :
    Agree v ((⟨Rect.unit (s := S16384x512) ![o, 0] size inb, w⟩ : View.Piece (Elt F) S16384x512 .f32) :: L) lo hi g := fun f y h0 h1 =>
  (View.read_writes_cons_rows_of_not_mem v f inb w L y rfl hW (by omega)).trans (hL f y h0 h1)

/-- A write that covers the rows decides them. -/
theorem Agree.here {κ : Kind} {sp : Space} {v : View sig κ sp S16384x512 .f32} {L : List (View.Piece (Elt F) S16384x512 .f32)} {lo hi : ℕ}
    {g : Vec F S16384x512 .f32} {o W : ℕ} {size : Fin 2 → ℕ} {inb : ∀ a : Fin 2, (![o, 0] : Fin 2 → ℕ) a + size a ≤ S16384x512.size a}
    {w : (Rect.unit (s := S16384x512) ![o, 0] size inb).shape.Idx → Elt F .f32}
    (hW : size (0 : Fin 2) = W) (hD : size (1 : Fin 2) = 512) (h : o ≤ lo ∧ hi ≤ o + W)
    (hw : ∀ x, w x = g ((Rect.unit (s := S16384x512) ![o, 0] size inb).emb x)) :
    Agree v ((⟨Rect.unit (s := S16384x512) ![o, 0] size inb, w⟩ : View.Piece (Elt F) S16384x512 .f32) :: L) lo hi g := fun f y h0 h1 => by
  have hm : y ∈ (Rect.unit (s := S16384x512) ![o, 0] size inb).set := by
    rw [Rect.mem_set_unit]
    refine Fin.forall_fin_two.mpr ⟨⟨?_, ?_⟩, ⟨Nat.zero_le _, ?_⟩⟩
    · show o ≤ _
      omega
    · show _ < o + size 0
      omega
    · show _ < 0 + size 1
      have := (y (1 : Fin 2)).isLt
      rw [hD, Nat.zero_add]
      exact this
  obtain ⟨x, rfl⟩ := (Rect.unit (s := S16384x512) ![o, 0] size inb).exists_idx_of_mem hm
  exact (View.read_writes_cons_emb v f _ w L x).trans (hw x)

/-- A load of rows that hold `g` gives `g` there. -/
theorem Agree.load {κ : Kind} {sp : Space} {v : View sig κ sp S16384x512 .f32} {L : List (View.Piece (Elt F) S16384x512 .f32)} {lo W : ℕ}
    {g : Vec F S16384x512 .f32} {size : Fin 2 → ℕ} {inb : ∀ a : Fin 2, (![lo, 0] : Fin 2 → ℕ) a + size a ≤ S16384x512.size a}
    (hW : size (0 : Fin 2) = W) (hL : Agree v L lo (lo + W) g) :
    v.readCov L (Rect.unit (s := S16384x512) ![lo, 0] size inb).toLoadRect
      = fun x => g ((Rect.unit (s := S16384x512) ![lo, 0] size inb).emb x) := funext fun x => by
  refine hL v.junk ((Rect.unit (s := S16384x512) ![lo, 0] size inb).emb x) ?_ ?_
  · show lo ≤ lo + 1 * (x 0).val
    omega
  · have h : (x (0 : Fin 2)).val < size 0 := (x (0 : Fin 2)).isLt
    show lo + 1 * (x 0).val < lo + W
    omega

/-! ## The run's own names -/

/-- The two zero offsets, as a constant function. -/
theorem zeros2 : (![0, 0] : Fin 2 → ℕ) = fun _ => 0 := by decide

section
variable (c : Dev nD) (fx : HB (F := F) c mX) (f1 : HB (F := F) c m1) (f2 : HB (F := F) c m2) (f3 : HB (F := F) c m3)
    (f4 : HB (F := F) c m4) (f5 : HB (F := F) c m5) (f6 : HB (F := F) c m6) (f7 : HB (F := F) c m7) (f8 : HB (F := F) c m8) (f9 : HB (F := F) c m9)

/-- The load of row tile 0 from scratch reads rows 0 to 2047 of x. -/
theorem load0 : kernelRun.sl.v17 c fx = xTile fx 0 inb_S16384x512_S2048x512_0_0 :=
  Agree.load (W := 2048) (g := fx) rfl <| .skip rfl (by decide) <| .skip rfl (by decide) <| .here rfl rfl (by decide) (fun _ => rfl)
/-- The load of row tile 1 from scratch reads rows 2048 to 4095 of x. -/
theorem load1 : kernelRun.sl.v59 c fx = xTile fx 2048 inb_S16384x512_S2048x512_2048_0 :=
  Agree.load (W := 2048) (g := fx) rfl <| .skip rfl (by decide) <| .skip rfl (by decide) <| .here rfl rfl (by decide) (fun _ => rfl)
/-- The load of row tile 2 from scratch reads rows 4096 to 6143 of x. -/
theorem load2 : kernelRun.sl.v101 c fx = xTile fx 4096 inb_S16384x512_S2048x512_4096_0 :=
  Agree.load (W := 2048) (g := fx) rfl <| .skip rfl (by decide) <| .skip rfl (by decide) <| .here rfl rfl (by decide) (fun _ => rfl)
/-- The load of row tile 3 from scratch reads rows 6144 to 8191 of x. -/
theorem load3 : kernelRun.sl.v143 c fx = xTile fx 6144 inb_S16384x512_S2048x512_6144_0 :=
  Agree.load (W := 2048) (g := fx) rfl <| .skip rfl (by decide) <| .skip rfl (by decide) <| .here rfl rfl (by decide) (fun _ => rfl)
/-- The load of row tile 4 from scratch reads rows 8192 to 10239 of x. -/
theorem load4 : kernelRun.sl.v185 c fx = xTile fx 8192 inb_S16384x512_S2048x512_8192_0 :=
  Agree.load (W := 2048) (g := fx) rfl <| .skip rfl (by decide) <| .skip rfl (by decide) <| .here rfl rfl (by decide) (fun _ => rfl)
/-- The load of row tile 5 from scratch reads rows 10240 to 12287 of x. -/
theorem load5 : kernelRun.sl.v227 c fx = xTile fx 10240 inb_S16384x512_S2048x512_10240_0 :=
  Agree.load (W := 2048) (g := fx) rfl <| .skip rfl (by decide) <| .skip rfl (by decide) <| .here rfl rfl (by decide) (fun _ => rfl)
/-- The load of row tile 6 from scratch reads rows 12288 to 14335 of x. -/
theorem load6 : kernelRun.sl.v265 c fx = xTile fx 12288 inb_S16384x512_S2048x512_12288_0 :=
  Agree.load (W := 2048) (g := fx) rfl <| .skip rfl (by decide) <| .here rfl rfl (by decide) (fun _ => rfl)
/-- The load of row tile 7 from scratch reads rows 14336 to 16383 of x. -/
theorem load7 : kernelRun.sl.v303 c fx = xTile fx 14336 inb_S16384x512_S2048x512_14336_0 :=
  Agree.load (W := 2048) (g := fx) rfl <| .here rfl rfl (by decide) (fun _ => rfl)
/-- The load of window 1 reads all of it. -/
theorem whole2 : View.readAt (Elt F) m2.view (Rect.unit ![0, 0] S256x512.size inb_S256x512_S256x512_0_0).toLoadRect f2 = f2 :=
  Memref.readAt_unit_zero _ _ zeros2 _ _
/-- The load of window 2 reads all of it. -/
theorem whole3 : View.readAt (Elt F) m3.view (Rect.unit ![0, 0] S256x1.size inb_S256x1_S256x1_0_0).toLoadRect f3 = f3 :=
  Memref.readAt_unit_zero _ _ zeros2 _ _
/-- The load of window 3 reads all of it. -/
theorem whole4 : View.readAt (Elt F) m4.view (Rect.unit ![0, 0] S1x256.size inb_S1x256_S1x256_0_0).toLoadRect f4 = f4 :=
  Memref.readAt_unit_zero _ _ zeros2 _ _
/-- The load of window 4 reads all of it. -/
theorem whole5 : View.readAt (Elt F) m5.view (Rect.unit ![0, 0] S1x1.size inb_S1x1_S1x1_0_0).toLoadRect f5 = f5 :=
  Memref.readAt_unit_zero _ _ zeros2 _ _
/-- The load of window 5 reads all of it. -/
theorem whole6 : View.readAt (Elt F) m6.view (Rect.unit ![0, 0] S256x512.size inb_S256x512_S256x512_0_0).toLoadRect f6 = f6 :=
  Memref.readAt_unit_zero _ _ zeros2 _ _
/-- The load of window 6 reads all of it. -/
theorem whole7 : View.readAt (Elt F) m7.view (Rect.unit ![0, 0] S1x256.size inb_S1x256_S1x256_0_0).toLoadRect f7 = f7 :=
  Memref.readAt_unit_zero _ _ zeros2 _ _
/-- The load of window 7 reads all of it. -/
theorem whole8 : View.readAt (Elt F) m8.view (Rect.unit ![0, 0] S512x256.size inb_S512x256_S512x256_0_0).toLoadRect f8 = f8 :=
  Memref.readAt_unit_zero _ _ zeros2 _ _
/-- The load of window 8 reads all of it. -/
theorem whole9 : View.readAt (Elt F) m9.view (Rect.unit ![0, 0] S1x512.size inb_S1x512_S1x512_0_0).toLoadRect f9 = f9 :=
  Memref.readAt_unit_zero _ _ zeros2 _ _
/-- The load of the importances of row tile 0. -/
theorem imp0 : View.readAt (Elt F) m1.view (Rect.unit (s := S1x16384) ![0, 0] S1x2048.size inb_S1x16384_S1x2048_0_0).toLoadRect f1
    = iTile f1 0 inb_S1x16384_S1x2048_0_0 := rfl
/-- The load of the importances of row tile 1. -/
theorem imp1 : View.readAt (Elt F) m1.view (Rect.unit (s := S1x16384) ![0, 2048] S1x2048.size inb_S1x16384_S1x2048_0_2048).toLoadRect f1
    = iTile f1 2048 inb_S1x16384_S1x2048_0_2048 := rfl
/-- The load of the importances of row tile 2. -/
theorem imp2 : View.readAt (Elt F) m1.view (Rect.unit (s := S1x16384) ![0, 4096] S1x2048.size inb_S1x16384_S1x2048_0_4096).toLoadRect f1
    = iTile f1 4096 inb_S1x16384_S1x2048_0_4096 := rfl
/-- The load of the importances of row tile 3. -/
theorem imp3 : View.readAt (Elt F) m1.view (Rect.unit (s := S1x16384) ![0, 6144] S1x2048.size inb_S1x16384_S1x2048_0_6144).toLoadRect f1
    = iTile f1 6144 inb_S1x16384_S1x2048_0_6144 := rfl
/-- The load of the importances of row tile 4. -/
theorem imp4 : View.readAt (Elt F) m1.view (Rect.unit (s := S1x16384) ![0, 8192] S1x2048.size inb_S1x16384_S1x2048_0_8192).toLoadRect f1
    = iTile f1 8192 inb_S1x16384_S1x2048_0_8192 := rfl
/-- The load of the importances of row tile 5. -/
theorem imp5 : View.readAt (Elt F) m1.view (Rect.unit (s := S1x16384) ![0, 10240] S1x2048.size inb_S1x16384_S1x2048_0_10240).toLoadRect f1
    = iTile f1 10240 inb_S1x16384_S1x2048_0_10240 := rfl
/-- The load of the importances of row tile 6. -/
theorem imp6 : View.readAt (Elt F) m1.view (Rect.unit (s := S1x16384) ![0, 12288] S1x2048.size inb_S1x16384_S1x2048_0_12288).toLoadRect f1
    = iTile f1 12288 inb_S1x16384_S1x2048_0_12288 := rfl
/-- The load of the importances of row tile 7. -/
theorem imp7 : View.readAt (Elt F) m1.view (Rect.unit (s := S1x16384) ![0, 14336] S1x2048.size inb_S1x16384_S1x2048_0_14336).toLoadRect f1
    = iTile f1 14336 inb_S1x16384_S1x2048_0_14336 := rfl

/-- The run's row is `retRow`. -/
theorem row_eq : kernelRun.sl.r_32 c fx f1 f2 f3 f4 f5 f6 f7 f8 f9 = retRow fx f1 f2 f3 f4 f5 f6 f7 f8 f9 := by
  unfold kernelRun.sl.r_32 kernelRun.sl.r_31 kernelRun.sl.r_30 kernelRun.sl.r_29 kernelRun.sl.r_28 kernelRun.sl.r_27 kernelRun.sl.r_26 kernelRun.sl.r_25 kernelRun.sl.r_24 kernelRun.sl.r_23 kernelRun.sl.r_22 kernelRun.sl.r_21 kernelRun.sl.r_20 kernelRun.sl.r_19 kernelRun.sl.r_18 kernelRun.sl.r_17 kernelRun.sl.r_16 kernelRun.sl.r_15 kernelRun.sl.r_14 kernelRun.sl.r_13 kernelRun.sl.r_12 kernelRun.sl.r_11 kernelRun.sl.r_10 kernelRun.sl.r_9 kernelRun.sl.r_8 kernelRun.sl.r_7 kernelRun.sl.r_6 kernelRun.sl.r_5 kernelRun.sl.r_4 kernelRun.sl.r_3 kernelRun.sl.r_2 kernelRun.sl.r_1 kernelRun.sl.r
  rw [load0, load1, load2, load3, load4, load5, load6, load7, whole2, whole3, whole4, whole5, whole6, whole7, whole8, whole9]
  rfl

/-- A row read off the one-row array after the two reshapes and the broadcast of a chunk's payload. -/
theorem chunk_pay (v : Vec F S1024x512 .f32) (r : FVec F S1x512 .f32) (x : S1024x512.Idx) :
    k0_pay44 r v x = FloatOps.addf (v x) (r (ix2 (0 : Fin 1) (x 1 : Fin 512))) := by
  unfold k0_pay44
  rw [shapeCast_self]
  show FloatOps.addf (v x) _ = _
  rw [broadcastTo_apply r _ x (ix2 (0 : Fin 1) (x 1 : Fin 512)) (Fin.forall_fin_two.mpr ⟨rfl, rfl⟩)]

/-- The load of output chunk 0 from scratch reads rows 0 to 1023 of x. -/
theorem chunk0 : kernelRun.sl.v356 c fx = fun x => fx ((Rect.unit (s := S16384x512) ![0, 0] S1024x512.size inb_S16384x512_S1024x512_0_0).emb x) :=
  Agree.load (W := 1024) (g := fx) rfl <| .skip (W := 2048) rfl (by decide) <| .skip (W := 2048) rfl (by decide) <| .skip (W := 2048) rfl (by decide) <| .skip (W := 2048) rfl (by decide) <| .skip (W := 2048) rfl (by decide) <| .skip (W := 2048) rfl (by decide) <| .skip (W := 2048) rfl (by decide) <| .here (W := 2048) rfl rfl (by decide) (fun _ => rfl)
/-- The load of output chunk 1 from scratch reads rows 1024 to 2047 of x. -/
theorem chunk1 : kernelRun.sl.v364 c fx f1 f2 f3 f4 f5 f6 f7 f8 f9 = fun x => fx ((Rect.unit (s := S16384x512) ![1024, 0] S1024x512.size inb_S16384x512_S1024x512_1024_0).emb x) :=
  Agree.load (W := 1024) (g := fx) rfl <| .skip (W := 1024) rfl (by decide) <| .skip (W := 2048) rfl (by decide) <| .skip (W := 2048) rfl (by decide) <| .skip (W := 2048) rfl (by decide) <| .skip (W := 2048) rfl (by decide) <| .skip (W := 2048) rfl (by decide) <| .skip (W := 2048) rfl (by decide) <| .skip (W := 2048) rfl (by decide) <| .here (W := 2048) rfl rfl (by decide) (fun _ => rfl)
/-- The load of output chunk 2 from scratch reads rows 2048 to 3071 of x. -/
theorem chunk2 : kernelRun.sl.v372 c fx f1 f2 f3 f4 f5 f6 f7 f8 f9 = fun x => fx ((Rect.unit (s := S16384x512) ![2048, 0] S1024x512.size inb_S16384x512_S1024x512_2048_0).emb x) :=
  Agree.load (W := 1024) (g := fx) rfl <| .skip (W := 1024) rfl (by decide) <| .skip (W := 1024) rfl (by decide) <| .skip (W := 2048) rfl (by decide) <| .skip (W := 2048) rfl (by decide) <| .skip (W := 2048) rfl (by decide) <| .skip (W := 2048) rfl (by decide) <| .skip (W := 2048) rfl (by decide) <| .skip (W := 2048) rfl (by decide) <| .here (W := 2048) rfl rfl (by decide) (fun _ => rfl)
/-- The load of output chunk 3 from scratch reads rows 3072 to 4095 of x. -/
theorem chunk3 : kernelRun.sl.v380 c fx f1 f2 f3 f4 f5 f6 f7 f8 f9 = fun x => fx ((Rect.unit (s := S16384x512) ![3072, 0] S1024x512.size inb_S16384x512_S1024x512_3072_0).emb x) :=
  Agree.load (W := 1024) (g := fx) rfl <| .skip (W := 1024) rfl (by decide) <| .skip (W := 1024) rfl (by decide) <| .skip (W := 1024) rfl (by decide) <| .skip (W := 2048) rfl (by decide) <| .skip (W := 2048) rfl (by decide) <| .skip (W := 2048) rfl (by decide) <| .skip (W := 2048) rfl (by decide) <| .skip (W := 2048) rfl (by decide) <| .skip (W := 2048) rfl (by decide) <| .here (W := 2048) rfl rfl (by decide) (fun _ => rfl)
/-- The load of output chunk 4 from scratch reads rows 4096 to 5119 of x. -/
theorem chunk4 : kernelRun.sl.v388 c fx f1 f2 f3 f4 f5 f6 f7 f8 f9 = fun x => fx ((Rect.unit (s := S16384x512) ![4096, 0] S1024x512.size inb_S16384x512_S1024x512_4096_0).emb x) :=
  Agree.load (W := 1024) (g := fx) rfl <| .skip (W := 1024) rfl (by decide) <| .skip (W := 1024) rfl (by decide) <| .skip (W := 1024) rfl (by decide) <| .skip (W := 1024) rfl (by decide) <| .skip (W := 2048) rfl (by decide) <| .skip (W := 2048) rfl (by decide) <| .skip (W := 2048) rfl (by decide) <| .skip (W := 2048) rfl (by decide) <| .skip (W := 2048) rfl (by decide) <| .here (W := 2048) rfl rfl (by decide) (fun _ => rfl)
/-- The load of output chunk 5 from scratch reads rows 5120 to 6143 of x. -/
theorem chunk5 : kernelRun.sl.v396 c fx f1 f2 f3 f4 f5 f6 f7 f8 f9 = fun x => fx ((Rect.unit (s := S16384x512) ![5120, 0] S1024x512.size inb_S16384x512_S1024x512_5120_0).emb x) :=
  Agree.load (W := 1024) (g := fx) rfl <| .skip (W := 1024) rfl (by decide) <| .skip (W := 1024) rfl (by decide) <| .skip (W := 1024) rfl (by decide) <| .skip (W := 1024) rfl (by decide) <| .skip (W := 1024) rfl (by decide) <| .skip (W := 2048) rfl (by decide) <| .skip (W := 2048) rfl (by decide) <| .skip (W := 2048) rfl (by decide) <| .skip (W := 2048) rfl (by decide) <| .skip (W := 2048) rfl (by decide) <| .here (W := 2048) rfl rfl (by decide) (fun _ => rfl)
/-- The load of output chunk 6 from scratch reads rows 6144 to 7167 of x. -/
theorem chunk6 : kernelRun.sl.v404 c fx f1 f2 f3 f4 f5 f6 f7 f8 f9 = fun x => fx ((Rect.unit (s := S16384x512) ![6144, 0] S1024x512.size inb_S16384x512_S1024x512_6144_0).emb x) :=
  Agree.load (W := 1024) (g := fx) rfl <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 2048) rfl (by decide) <| .skip (W := 2048) rfl (by decide) <| .skip (W := 2048) rfl (by decide) <| .skip (W := 2048) rfl (by decide) <| .here (W := 2048) rfl rfl (by decide) (fun _ => rfl)
/-- The load of output chunk 7 from scratch reads rows 7168 to 8191 of x. -/
theorem chunk7 : kernelRun.sl.v412 c fx f1 f2 f3 f4 f5 f6 f7 f8 f9 = fun x => fx ((Rect.unit (s := S16384x512) ![7168, 0] S1024x512.size inb_S16384x512_S1024x512_7168_0).emb x) :=
  Agree.load (W := 1024) (g := fx) rfl <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 2048) rfl (by decide) <| .skip (W := 2048) rfl (by decide) <| .skip (W := 2048) rfl (by decide) <| .skip (W := 2048) rfl (by decide) <| .here (W := 2048) rfl rfl (by decide) (fun _ => rfl)
/-- The load of output chunk 8 from scratch reads rows 8192 to 9215 of x. -/
theorem chunk8 : kernelRun.sl.v420 c fx f1 f2 f3 f4 f5 f6 f7 f8 f9 = fun x => fx ((Rect.unit (s := S16384x512) ![8192, 0] S1024x512.size inb_S16384x512_S1024x512_8192_0).emb x) :=
  Agree.load (W := 1024) (g := fx) rfl <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 2048) rfl (by decide) <| .skip (W := 2048) rfl (by decide) <| .skip (W := 2048) rfl (by decide) <| .here (W := 2048) rfl rfl (by decide) (fun _ => rfl)
/-- The load of output chunk 9 from scratch reads rows 9216 to 10239 of x. -/
theorem chunk9 : kernelRun.sl.v428 c fx f1 f2 f3 f4 f5 f6 f7 f8 f9 = fun x => fx ((Rect.unit (s := S16384x512) ![9216, 0] S1024x512.size inb_S16384x512_S1024x512_9216_0).emb x) :=
  Agree.load (W := 1024) (g := fx) rfl <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 2048) rfl (by decide) <| .skip (W := 2048) rfl (by decide) <| .skip (W := 2048) rfl (by decide) <| .here (W := 2048) rfl rfl (by decide) (fun _ => rfl)
/-- The load of output chunk 10 from scratch reads rows 10240 to 11263 of x. -/
theorem chunk10 : kernelRun.sl.v436 c fx f1 f2 f3 f4 f5 f6 f7 f8 f9 = fun x => fx ((Rect.unit (s := S16384x512) ![10240, 0] S1024x512.size inb_S16384x512_S1024x512_10240_0).emb x) :=
  Agree.load (W := 1024) (g := fx) rfl <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 2048) rfl (by decide) <| .skip (W := 2048) rfl (by decide) <| .here (W := 2048) rfl rfl (by decide) (fun _ => rfl)
/-- The load of output chunk 11 from scratch reads rows 11264 to 12287 of x. -/
theorem chunk11 : kernelRun.sl.v444 c fx f1 f2 f3 f4 f5 f6 f7 f8 f9 = fun x => fx ((Rect.unit (s := S16384x512) ![11264, 0] S1024x512.size inb_S16384x512_S1024x512_11264_0).emb x) :=
  Agree.load (W := 1024) (g := fx) rfl <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 2048) rfl (by decide) <| .skip (W := 2048) rfl (by decide) <| .here (W := 2048) rfl rfl (by decide) (fun _ => rfl)
/-- The load of output chunk 12 from scratch reads rows 12288 to 13311 of x. -/
theorem chunk12 : kernelRun.sl.v452 c fx f1 f2 f3 f4 f5 f6 f7 f8 f9 = fun x => fx ((Rect.unit (s := S16384x512) ![12288, 0] S1024x512.size inb_S16384x512_S1024x512_12288_0).emb x) :=
  Agree.load (W := 1024) (g := fx) rfl <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 2048) rfl (by decide) <| .here (W := 2048) rfl rfl (by decide) (fun _ => rfl)
/-- The load of output chunk 13 from scratch reads rows 13312 to 14335 of x. -/
theorem chunk13 : kernelRun.sl.v460 c fx f1 f2 f3 f4 f5 f6 f7 f8 f9 = fun x => fx ((Rect.unit (s := S16384x512) ![13312, 0] S1024x512.size inb_S16384x512_S1024x512_13312_0).emb x) :=
  Agree.load (W := 1024) (g := fx) rfl <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 2048) rfl (by decide) <| .here (W := 2048) rfl rfl (by decide) (fun _ => rfl)
/-- The load of output chunk 14 from scratch reads rows 14336 to 15359 of x. -/
theorem chunk14 : kernelRun.sl.v468 c fx f1 f2 f3 f4 f5 f6 f7 f8 f9 = fun x => fx ((Rect.unit (s := S16384x512) ![14336, 0] S1024x512.size inb_S16384x512_S1024x512_14336_0).emb x) :=
  Agree.load (W := 1024) (g := fx) rfl <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .here (W := 2048) rfl rfl (by decide) (fun _ => rfl)
/-- The load of output chunk 15 from scratch reads rows 15360 to 16383 of x. -/
theorem chunk15 : kernelRun.sl.v476 c fx f1 f2 f3 f4 f5 f6 f7 f8 f9 = fun x => fx ((Rect.unit (s := S16384x512) ![15360, 0] S1024x512.size inb_S16384x512_S1024x512_15360_0).emb x) :=
  Agree.load (W := 1024) (g := fx) rfl <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .here (W := 2048) rfl rfl (by decide) (fun _ => rfl)

/-- Rows of a chunk keep their column. -/
theorem row_emb {o : ℕ} {h : ∀ a, (![o, 0] : Fin 2 → ℕ) a + S1024x512.size a ≤ S16384x512.size a} (x : S1024x512.Idx) :
    (ix2 (0 : Fin 1) (((Rect.unit (s := S16384x512) ![o, 0] S1024x512.size h).emb x) 1 : Fin 512) : S1x512.Idx)
      = ix2 (0 : Fin 1) (x 1 : Fin 512) := by
  congr 1
  apply Fin.ext
  show 0 + 1 * (x 1).val = (x 1).val
  omega

/-- What the transfer of output chunk 0 carries: those rows of the result. -/
theorem out0 (fb : HB (F := F) c mB) (x) : kernelRun.sl.dma63 c fx f1 f2 f3 f4 f5 f6 f7 f8 f9 fb x
    = result fx f1 f2 f3 f4 f5 f6 f7 f8 f9 ((Rect.unit (s := S16384x512) ![0, 0] S1024x512.size inb_S16384x512_S1024x512_0_0).emb x) := by
  refine Agree.here (v := mB.view) (L := _) (lo := 0) (hi := 0+1024) (o := 0) (W := 1024) (size := S1024x512.size) (inb := inb_S16384x512_S1024x512_0_0) rfl rfl (by decide)
    (fun x => ?_) fb ((Rect.unit (s := S16384x512) ![0, 0] S1024x512.size inb_S16384x512_S1024x512_0_0).emb x) ?_ ?_
  · refine (chunk_pay (kernelRun.sl.v356 c fx) (kernelRun.sl.r_32 c fx f1 f2 f3 f4 f5 f6 f7 f8 f9) x).trans ?_
    rw [row_eq, chunk0]
    unfold result
    rw [row_emb]
    rfl
  · show 0 ≤ 0 + 1 * (x 0).val
    omega
  · have h : (x (0 : Fin 2)).val < 1024 := (x (0 : Fin 2)).isLt
    show 0 + 1 * (x 0).val < 0 + 1024
    omega
/-- What the transfer of output chunk 1 carries: those rows of the result. -/
theorem out1 (fb : HB (F := F) c mB) (x) : kernelRun.sl.dma67 c fx f1 f2 f3 f4 f5 f6 f7 f8 f9 fb x
    = result fx f1 f2 f3 f4 f5 f6 f7 f8 f9 ((Rect.unit (s := S16384x512) ![1024, 0] S1024x512.size inb_S16384x512_S1024x512_1024_0).emb x) := by
  refine Agree.here (v := mB.view) (L := _) (lo := 1024) (hi := 1024+1024) (o := 1024) (W := 1024) (size := S1024x512.size) (inb := inb_S16384x512_S1024x512_1024_0) rfl rfl (by decide)
    (fun x => ?_) fb ((Rect.unit (s := S16384x512) ![1024, 0] S1024x512.size inb_S16384x512_S1024x512_1024_0).emb x) ?_ ?_
  · refine (chunk_pay (kernelRun.sl.v364 c fx f1 f2 f3 f4 f5 f6 f7 f8 f9) (kernelRun.sl.r_32 c fx f1 f2 f3 f4 f5 f6 f7 f8 f9) x).trans ?_
    rw [row_eq, chunk1]
    unfold result
    rw [row_emb]
    rfl
  · show 1024 ≤ 1024 + 1 * (x 0).val
    omega
  · have h : (x (0 : Fin 2)).val < 1024 := (x (0 : Fin 2)).isLt
    show 1024 + 1 * (x 0).val < 1024 + 1024
    omega
/-- What the transfer of output chunk 2 carries: those rows of the result. -/
theorem out2 (fb : HB (F := F) c mB) (x) : kernelRun.sl.dma71 c fx f1 f2 f3 f4 f5 f6 f7 f8 f9 fb x
    = result fx f1 f2 f3 f4 f5 f6 f7 f8 f9 ((Rect.unit (s := S16384x512) ![2048, 0] S1024x512.size inb_S16384x512_S1024x512_2048_0).emb x) := by
  refine Agree.here (v := mB.view) (L := _) (lo := 2048) (hi := 2048+1024) (o := 2048) (W := 1024) (size := S1024x512.size) (inb := inb_S16384x512_S1024x512_2048_0) rfl rfl (by decide)
    (fun x => ?_) fb ((Rect.unit (s := S16384x512) ![2048, 0] S1024x512.size inb_S16384x512_S1024x512_2048_0).emb x) ?_ ?_
  · refine (chunk_pay (kernelRun.sl.v372 c fx f1 f2 f3 f4 f5 f6 f7 f8 f9) (kernelRun.sl.r_32 c fx f1 f2 f3 f4 f5 f6 f7 f8 f9) x).trans ?_
    rw [row_eq, chunk2]
    unfold result
    rw [row_emb]
    rfl
  · show 2048 ≤ 2048 + 1 * (x 0).val
    omega
  · have h : (x (0 : Fin 2)).val < 1024 := (x (0 : Fin 2)).isLt
    show 2048 + 1 * (x 0).val < 2048 + 1024
    omega
/-- What the transfer of output chunk 3 carries: those rows of the result. -/
theorem out3 (fb : HB (F := F) c mB) (x) : kernelRun.sl.dma75 c fx f1 f2 f3 f4 f5 f6 f7 f8 f9 fb x
    = result fx f1 f2 f3 f4 f5 f6 f7 f8 f9 ((Rect.unit (s := S16384x512) ![3072, 0] S1024x512.size inb_S16384x512_S1024x512_3072_0).emb x) := by
  refine Agree.here (v := mB.view) (L := _) (lo := 3072) (hi := 3072+1024) (o := 3072) (W := 1024) (size := S1024x512.size) (inb := inb_S16384x512_S1024x512_3072_0) rfl rfl (by decide)
    (fun x => ?_) fb ((Rect.unit (s := S16384x512) ![3072, 0] S1024x512.size inb_S16384x512_S1024x512_3072_0).emb x) ?_ ?_
  · refine (chunk_pay (kernelRun.sl.v380 c fx f1 f2 f3 f4 f5 f6 f7 f8 f9) (kernelRun.sl.r_32 c fx f1 f2 f3 f4 f5 f6 f7 f8 f9) x).trans ?_
    rw [row_eq, chunk3]
    unfold result
    rw [row_emb]
    rfl
  · show 3072 ≤ 3072 + 1 * (x 0).val
    omega
  · have h : (x (0 : Fin 2)).val < 1024 := (x (0 : Fin 2)).isLt
    show 3072 + 1 * (x 0).val < 3072 + 1024
    omega
/-- What the transfer of output chunk 4 carries: those rows of the result. -/
theorem out4 (fb : HB (F := F) c mB) (x) : kernelRun.sl.dma79 c fx f1 f2 f3 f4 f5 f6 f7 f8 f9 fb x
    = result fx f1 f2 f3 f4 f5 f6 f7 f8 f9 ((Rect.unit (s := S16384x512) ![4096, 0] S1024x512.size inb_S16384x512_S1024x512_4096_0).emb x) := by
  refine Agree.here (v := mB.view) (L := _) (lo := 4096) (hi := 4096+1024) (o := 4096) (W := 1024) (size := S1024x512.size) (inb := inb_S16384x512_S1024x512_4096_0) rfl rfl (by decide)
    (fun x => ?_) fb ((Rect.unit (s := S16384x512) ![4096, 0] S1024x512.size inb_S16384x512_S1024x512_4096_0).emb x) ?_ ?_
  · refine (chunk_pay (kernelRun.sl.v388 c fx f1 f2 f3 f4 f5 f6 f7 f8 f9) (kernelRun.sl.r_32 c fx f1 f2 f3 f4 f5 f6 f7 f8 f9) x).trans ?_
    rw [row_eq, chunk4]
    unfold result
    rw [row_emb]
    rfl
  · show 4096 ≤ 4096 + 1 * (x 0).val
    omega
  · have h : (x (0 : Fin 2)).val < 1024 := (x (0 : Fin 2)).isLt
    show 4096 + 1 * (x 0).val < 4096 + 1024
    omega
/-- What the transfer of output chunk 5 carries: those rows of the result. -/
theorem out5 (fb : HB (F := F) c mB) (x) : kernelRun.sl.dma83 c fx f1 f2 f3 f4 f5 f6 f7 f8 f9 fb x
    = result fx f1 f2 f3 f4 f5 f6 f7 f8 f9 ((Rect.unit (s := S16384x512) ![5120, 0] S1024x512.size inb_S16384x512_S1024x512_5120_0).emb x) := by
  refine Agree.here (v := mB.view) (L := _) (lo := 5120) (hi := 5120+1024) (o := 5120) (W := 1024) (size := S1024x512.size) (inb := inb_S16384x512_S1024x512_5120_0) rfl rfl (by decide)
    (fun x => ?_) fb ((Rect.unit (s := S16384x512) ![5120, 0] S1024x512.size inb_S16384x512_S1024x512_5120_0).emb x) ?_ ?_
  · refine (chunk_pay (kernelRun.sl.v396 c fx f1 f2 f3 f4 f5 f6 f7 f8 f9) (kernelRun.sl.r_32 c fx f1 f2 f3 f4 f5 f6 f7 f8 f9) x).trans ?_
    rw [row_eq, chunk5]
    unfold result
    rw [row_emb]
    rfl
  · show 5120 ≤ 5120 + 1 * (x 0).val
    omega
  · have h : (x (0 : Fin 2)).val < 1024 := (x (0 : Fin 2)).isLt
    show 5120 + 1 * (x 0).val < 5120 + 1024
    omega
/-- What the transfer of output chunk 6 carries: those rows of the result. -/
theorem out6 (fb : HB (F := F) c mB) (x) : kernelRun.sl.dma87 c fx f1 f2 f3 f4 f5 f6 f7 f8 f9 fb x
    = result fx f1 f2 f3 f4 f5 f6 f7 f8 f9 ((Rect.unit (s := S16384x512) ![6144, 0] S1024x512.size inb_S16384x512_S1024x512_6144_0).emb x) := by
  refine Agree.here (v := mB.view) (L := _) (lo := 6144) (hi := 6144+1024) (o := 6144) (W := 1024) (size := S1024x512.size) (inb := inb_S16384x512_S1024x512_6144_0) rfl rfl (by decide)
    (fun x => ?_) fb ((Rect.unit (s := S16384x512) ![6144, 0] S1024x512.size inb_S16384x512_S1024x512_6144_0).emb x) ?_ ?_
  · refine (chunk_pay (kernelRun.sl.v404 c fx f1 f2 f3 f4 f5 f6 f7 f8 f9) (kernelRun.sl.r_32 c fx f1 f2 f3 f4 f5 f6 f7 f8 f9) x).trans ?_
    rw [row_eq, chunk6]
    unfold result
    rw [row_emb]
    rfl
  · show 6144 ≤ 6144 + 1 * (x 0).val
    omega
  · have h : (x (0 : Fin 2)).val < 1024 := (x (0 : Fin 2)).isLt
    show 6144 + 1 * (x 0).val < 6144 + 1024
    omega
/-- What the transfer of output chunk 7 carries: those rows of the result. -/
theorem out7 (fb : HB (F := F) c mB) (x) : kernelRun.sl.dma91 c fx f1 f2 f3 f4 f5 f6 f7 f8 f9 fb x
    = result fx f1 f2 f3 f4 f5 f6 f7 f8 f9 ((Rect.unit (s := S16384x512) ![7168, 0] S1024x512.size inb_S16384x512_S1024x512_7168_0).emb x) := by
  refine Agree.here (v := mB.view) (L := _) (lo := 7168) (hi := 7168+1024) (o := 7168) (W := 1024) (size := S1024x512.size) (inb := inb_S16384x512_S1024x512_7168_0) rfl rfl (by decide)
    (fun x => ?_) fb ((Rect.unit (s := S16384x512) ![7168, 0] S1024x512.size inb_S16384x512_S1024x512_7168_0).emb x) ?_ ?_
  · refine (chunk_pay (kernelRun.sl.v412 c fx f1 f2 f3 f4 f5 f6 f7 f8 f9) (kernelRun.sl.r_32 c fx f1 f2 f3 f4 f5 f6 f7 f8 f9) x).trans ?_
    rw [row_eq, chunk7]
    unfold result
    rw [row_emb]
    rfl
  · show 7168 ≤ 7168 + 1 * (x 0).val
    omega
  · have h : (x (0 : Fin 2)).val < 1024 := (x (0 : Fin 2)).isLt
    show 7168 + 1 * (x 0).val < 7168 + 1024
    omega
/-- What the transfer of output chunk 8 carries: those rows of the result. -/
theorem out8 (fb : HB (F := F) c mB) (x) : kernelRun.sl.dma95 c fx f1 f2 f3 f4 f5 f6 f7 f8 f9 fb x
    = result fx f1 f2 f3 f4 f5 f6 f7 f8 f9 ((Rect.unit (s := S16384x512) ![8192, 0] S1024x512.size inb_S16384x512_S1024x512_8192_0).emb x) := by
  refine Agree.here (v := mB.view) (L := _) (lo := 8192) (hi := 8192+1024) (o := 8192) (W := 1024) (size := S1024x512.size) (inb := inb_S16384x512_S1024x512_8192_0) rfl rfl (by decide)
    (fun x => ?_) fb ((Rect.unit (s := S16384x512) ![8192, 0] S1024x512.size inb_S16384x512_S1024x512_8192_0).emb x) ?_ ?_
  · refine (chunk_pay (kernelRun.sl.v420 c fx f1 f2 f3 f4 f5 f6 f7 f8 f9) (kernelRun.sl.r_32 c fx f1 f2 f3 f4 f5 f6 f7 f8 f9) x).trans ?_
    rw [row_eq, chunk8]
    unfold result
    rw [row_emb]
    rfl
  · show 8192 ≤ 8192 + 1 * (x 0).val
    omega
  · have h : (x (0 : Fin 2)).val < 1024 := (x (0 : Fin 2)).isLt
    show 8192 + 1 * (x 0).val < 8192 + 1024
    omega
/-- What the transfer of output chunk 9 carries: those rows of the result. -/
theorem out9 (fb : HB (F := F) c mB) (x) : kernelRun.sl.dma99 c fx f1 f2 f3 f4 f5 f6 f7 f8 f9 fb x
    = result fx f1 f2 f3 f4 f5 f6 f7 f8 f9 ((Rect.unit (s := S16384x512) ![9216, 0] S1024x512.size inb_S16384x512_S1024x512_9216_0).emb x) := by
  refine Agree.here (v := mB.view) (L := _) (lo := 9216) (hi := 9216+1024) (o := 9216) (W := 1024) (size := S1024x512.size) (inb := inb_S16384x512_S1024x512_9216_0) rfl rfl (by decide)
    (fun x => ?_) fb ((Rect.unit (s := S16384x512) ![9216, 0] S1024x512.size inb_S16384x512_S1024x512_9216_0).emb x) ?_ ?_
  · refine (chunk_pay (kernelRun.sl.v428 c fx f1 f2 f3 f4 f5 f6 f7 f8 f9) (kernelRun.sl.r_32 c fx f1 f2 f3 f4 f5 f6 f7 f8 f9) x).trans ?_
    rw [row_eq, chunk9]
    unfold result
    rw [row_emb]
    rfl
  · show 9216 ≤ 9216 + 1 * (x 0).val
    omega
  · have h : (x (0 : Fin 2)).val < 1024 := (x (0 : Fin 2)).isLt
    show 9216 + 1 * (x 0).val < 9216 + 1024
    omega
/-- What the transfer of output chunk 10 carries: those rows of the result. -/
theorem out10 (fb : HB (F := F) c mB) (x) : kernelRun.sl.dma103 c fx f1 f2 f3 f4 f5 f6 f7 f8 f9 fb x
    = result fx f1 f2 f3 f4 f5 f6 f7 f8 f9 ((Rect.unit (s := S16384x512) ![10240, 0] S1024x512.size inb_S16384x512_S1024x512_10240_0).emb x) := by
  refine Agree.here (v := mB.view) (L := _) (lo := 10240) (hi := 10240+1024) (o := 10240) (W := 1024) (size := S1024x512.size) (inb := inb_S16384x512_S1024x512_10240_0) rfl rfl (by decide)
    (fun x => ?_) fb ((Rect.unit (s := S16384x512) ![10240, 0] S1024x512.size inb_S16384x512_S1024x512_10240_0).emb x) ?_ ?_
  · refine (chunk_pay (kernelRun.sl.v436 c fx f1 f2 f3 f4 f5 f6 f7 f8 f9) (kernelRun.sl.r_32 c fx f1 f2 f3 f4 f5 f6 f7 f8 f9) x).trans ?_
    rw [row_eq, chunk10]
    unfold result
    rw [row_emb]
    rfl
  · show 10240 ≤ 10240 + 1 * (x 0).val
    omega
  · have h : (x (0 : Fin 2)).val < 1024 := (x (0 : Fin 2)).isLt
    show 10240 + 1 * (x 0).val < 10240 + 1024
    omega
/-- What the transfer of output chunk 11 carries: those rows of the result. -/
theorem out11 (fb : HB (F := F) c mB) (x) : kernelRun.sl.dma107 c fx f1 f2 f3 f4 f5 f6 f7 f8 f9 fb x
    = result fx f1 f2 f3 f4 f5 f6 f7 f8 f9 ((Rect.unit (s := S16384x512) ![11264, 0] S1024x512.size inb_S16384x512_S1024x512_11264_0).emb x) := by
  refine Agree.here (v := mB.view) (L := _) (lo := 11264) (hi := 11264+1024) (o := 11264) (W := 1024) (size := S1024x512.size) (inb := inb_S16384x512_S1024x512_11264_0) rfl rfl (by decide)
    (fun x => ?_) fb ((Rect.unit (s := S16384x512) ![11264, 0] S1024x512.size inb_S16384x512_S1024x512_11264_0).emb x) ?_ ?_
  · refine (chunk_pay (kernelRun.sl.v444 c fx f1 f2 f3 f4 f5 f6 f7 f8 f9) (kernelRun.sl.r_32 c fx f1 f2 f3 f4 f5 f6 f7 f8 f9) x).trans ?_
    rw [row_eq, chunk11]
    unfold result
    rw [row_emb]
    rfl
  · show 11264 ≤ 11264 + 1 * (x 0).val
    omega
  · have h : (x (0 : Fin 2)).val < 1024 := (x (0 : Fin 2)).isLt
    show 11264 + 1 * (x 0).val < 11264 + 1024
    omega
/-- What the transfer of output chunk 12 carries: those rows of the result. -/
theorem out12 (fb : HB (F := F) c mB) (x) : kernelRun.sl.dma111 c fx f1 f2 f3 f4 f5 f6 f7 f8 f9 fb x
    = result fx f1 f2 f3 f4 f5 f6 f7 f8 f9 ((Rect.unit (s := S16384x512) ![12288, 0] S1024x512.size inb_S16384x512_S1024x512_12288_0).emb x) := by
  refine Agree.here (v := mB.view) (L := _) (lo := 12288) (hi := 12288+1024) (o := 12288) (W := 1024) (size := S1024x512.size) (inb := inb_S16384x512_S1024x512_12288_0) rfl rfl (by decide)
    (fun x => ?_) fb ((Rect.unit (s := S16384x512) ![12288, 0] S1024x512.size inb_S16384x512_S1024x512_12288_0).emb x) ?_ ?_
  · refine (chunk_pay (kernelRun.sl.v452 c fx f1 f2 f3 f4 f5 f6 f7 f8 f9) (kernelRun.sl.r_32 c fx f1 f2 f3 f4 f5 f6 f7 f8 f9) x).trans ?_
    rw [row_eq, chunk12]
    unfold result
    rw [row_emb]
    rfl
  · show 12288 ≤ 12288 + 1 * (x 0).val
    omega
  · have h : (x (0 : Fin 2)).val < 1024 := (x (0 : Fin 2)).isLt
    show 12288 + 1 * (x 0).val < 12288 + 1024
    omega
/-- What the transfer of output chunk 13 carries: those rows of the result. -/
theorem out13 (fb : HB (F := F) c mB) (x) : kernelRun.sl.dma115 c fx f1 f2 f3 f4 f5 f6 f7 f8 f9 fb x
    = result fx f1 f2 f3 f4 f5 f6 f7 f8 f9 ((Rect.unit (s := S16384x512) ![13312, 0] S1024x512.size inb_S16384x512_S1024x512_13312_0).emb x) := by
  refine Agree.here (v := mB.view) (L := _) (lo := 13312) (hi := 13312+1024) (o := 13312) (W := 1024) (size := S1024x512.size) (inb := inb_S16384x512_S1024x512_13312_0) rfl rfl (by decide)
    (fun x => ?_) fb ((Rect.unit (s := S16384x512) ![13312, 0] S1024x512.size inb_S16384x512_S1024x512_13312_0).emb x) ?_ ?_
  · refine (chunk_pay (kernelRun.sl.v460 c fx f1 f2 f3 f4 f5 f6 f7 f8 f9) (kernelRun.sl.r_32 c fx f1 f2 f3 f4 f5 f6 f7 f8 f9) x).trans ?_
    rw [row_eq, chunk13]
    unfold result
    rw [row_emb]
    rfl
  · show 13312 ≤ 13312 + 1 * (x 0).val
    omega
  · have h : (x (0 : Fin 2)).val < 1024 := (x (0 : Fin 2)).isLt
    show 13312 + 1 * (x 0).val < 13312 + 1024
    omega
/-- What the transfer of output chunk 14 carries: those rows of the result. -/
theorem out14 (fb : HB (F := F) c mB) (x) : kernelRun.sl.dma119 c fx f1 f2 f3 f4 f5 f6 f7 f8 f9 fb x
    = result fx f1 f2 f3 f4 f5 f6 f7 f8 f9 ((Rect.unit (s := S16384x512) ![14336, 0] S1024x512.size inb_S16384x512_S1024x512_14336_0).emb x) := by
  refine Agree.here (v := mB.view) (L := _) (lo := 14336) (hi := 14336+1024) (o := 14336) (W := 1024) (size := S1024x512.size) (inb := inb_S16384x512_S1024x512_14336_0) rfl rfl (by decide)
    (fun x => ?_) fb ((Rect.unit (s := S16384x512) ![14336, 0] S1024x512.size inb_S16384x512_S1024x512_14336_0).emb x) ?_ ?_
  · refine (chunk_pay (kernelRun.sl.v468 c fx f1 f2 f3 f4 f5 f6 f7 f8 f9) (kernelRun.sl.r_32 c fx f1 f2 f3 f4 f5 f6 f7 f8 f9) x).trans ?_
    rw [row_eq, chunk14]
    unfold result
    rw [row_emb]
    rfl
  · show 14336 ≤ 14336 + 1 * (x 0).val
    omega
  · have h : (x (0 : Fin 2)).val < 1024 := (x (0 : Fin 2)).isLt
    show 14336 + 1 * (x 0).val < 14336 + 1024
    omega
/-- What the transfer of output chunk 15 carries: those rows of the result. -/
theorem out15 (fb : HB (F := F) c mB) (x) : kernelRun.sl.dma123 c fx f1 f2 f3 f4 f5 f6 f7 f8 f9 fb x
    = result fx f1 f2 f3 f4 f5 f6 f7 f8 f9 ((Rect.unit (s := S16384x512) ![15360, 0] S1024x512.size inb_S16384x512_S1024x512_15360_0).emb x) := by
  refine Agree.here (v := mB.view) (L := _) (lo := 15360) (hi := 15360+1024) (o := 15360) (W := 1024) (size := S1024x512.size) (inb := inb_S16384x512_S1024x512_15360_0) rfl rfl (by decide)
    (fun x => ?_) fb ((Rect.unit (s := S16384x512) ![15360, 0] S1024x512.size inb_S16384x512_S1024x512_15360_0).emb x) ?_ ?_
  · refine (chunk_pay (kernelRun.sl.v476 c fx f1 f2 f3 f4 f5 f6 f7 f8 f9) (kernelRun.sl.r_32 c fx f1 f2 f3 f4 f5 f6 f7 f8 f9) x).trans ?_
    rw [row_eq, chunk15]
    unfold result
    rw [row_emb]
    rfl
  · show 15360 ≤ 15360 + 1 * (x 0).val
    omega
  · have h : (x (0 : Fin 2)).val < 1024 := (x (0 : Fin 2)).isLt
    show 15360 + 1 * (x 0).val < 15360 + 1024
    omega
/-- After the body, output chunk 0 holds those rows of the result. -/
theorem fin0 (plan) (fb : HB (F := F) c mB) : Agree mO.view ((kernelRun c fx f1 f2 f3 f4 f5 f6 f7 f8 f9 plan).1 fb) 0 1024
    (result fx f1 f2 f3 f4 f5 f6 f7 f8 f9) :=
  .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .here (W := 1024) rfl rfl (by decide) (out0 c fx f1 f2 f3 f4 f5 f6 f7 f8 f9 fb)
/-- After the body, output chunk 1 holds those rows of the result. -/
theorem fin1 (plan) (fb : HB (F := F) c mB) : Agree mO.view ((kernelRun c fx f1 f2 f3 f4 f5 f6 f7 f8 f9 plan).1 fb) 1024 2048
    (result fx f1 f2 f3 f4 f5 f6 f7 f8 f9) :=
  .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .here (W := 1024) rfl rfl (by decide) (out1 c fx f1 f2 f3 f4 f5 f6 f7 f8 f9 fb)
/-- After the body, output chunk 2 holds those rows of the result. -/
theorem fin2 (plan) (fb : HB (F := F) c mB) : Agree mO.view ((kernelRun c fx f1 f2 f3 f4 f5 f6 f7 f8 f9 plan).1 fb) 2048 3072
    (result fx f1 f2 f3 f4 f5 f6 f7 f8 f9) :=
  .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .here (W := 1024) rfl rfl (by decide) (out2 c fx f1 f2 f3 f4 f5 f6 f7 f8 f9 fb)
/-- After the body, output chunk 3 holds those rows of the result. -/
theorem fin3 (plan) (fb : HB (F := F) c mB) : Agree mO.view ((kernelRun c fx f1 f2 f3 f4 f5 f6 f7 f8 f9 plan).1 fb) 3072 4096
    (result fx f1 f2 f3 f4 f5 f6 f7 f8 f9) :=
  .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .here (W := 1024) rfl rfl (by decide) (out3 c fx f1 f2 f3 f4 f5 f6 f7 f8 f9 fb)
/-- After the body, output chunk 4 holds those rows of the result. -/
theorem fin4 (plan) (fb : HB (F := F) c mB) : Agree mO.view ((kernelRun c fx f1 f2 f3 f4 f5 f6 f7 f8 f9 plan).1 fb) 4096 5120
    (result fx f1 f2 f3 f4 f5 f6 f7 f8 f9) :=
  .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .here (W := 1024) rfl rfl (by decide) (out4 c fx f1 f2 f3 f4 f5 f6 f7 f8 f9 fb)
/-- After the body, output chunk 5 holds those rows of the result. -/
theorem fin5 (plan) (fb : HB (F := F) c mB) : Agree mO.view ((kernelRun c fx f1 f2 f3 f4 f5 f6 f7 f8 f9 plan).1 fb) 5120 6144
    (result fx f1 f2 f3 f4 f5 f6 f7 f8 f9) :=
  .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .here (W := 1024) rfl rfl (by decide) (out5 c fx f1 f2 f3 f4 f5 f6 f7 f8 f9 fb)
/-- After the body, output chunk 6 holds those rows of the result. -/
theorem fin6 (plan) (fb : HB (F := F) c mB) : Agree mO.view ((kernelRun c fx f1 f2 f3 f4 f5 f6 f7 f8 f9 plan).1 fb) 6144 7168
    (result fx f1 f2 f3 f4 f5 f6 f7 f8 f9) :=
  .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .here (W := 1024) rfl rfl (by decide) (out6 c fx f1 f2 f3 f4 f5 f6 f7 f8 f9 fb)
/-- After the body, output chunk 7 holds those rows of the result. -/
theorem fin7 (plan) (fb : HB (F := F) c mB) : Agree mO.view ((kernelRun c fx f1 f2 f3 f4 f5 f6 f7 f8 f9 plan).1 fb) 7168 8192
    (result fx f1 f2 f3 f4 f5 f6 f7 f8 f9) :=
  .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .here (W := 1024) rfl rfl (by decide) (out7 c fx f1 f2 f3 f4 f5 f6 f7 f8 f9 fb)
/-- After the body, output chunk 8 holds those rows of the result. -/
theorem fin8 (plan) (fb : HB (F := F) c mB) : Agree mO.view ((kernelRun c fx f1 f2 f3 f4 f5 f6 f7 f8 f9 plan).1 fb) 8192 9216
    (result fx f1 f2 f3 f4 f5 f6 f7 f8 f9) :=
  .skip (W := 1024) rfl (by decide) <| .skip (W := 1024) rfl (by decide) <| .skip (W := 1024) rfl (by decide) <| .skip (W := 1024) rfl (by decide) <| .skip (W := 1024) rfl (by decide) <| .skip (W := 1024) rfl (by decide) <| .skip (W := 1024) rfl (by decide) <| .here (W := 1024) rfl rfl (by decide) (out8 c fx f1 f2 f3 f4 f5 f6 f7 f8 f9 fb)
/-- After the body, output chunk 9 holds those rows of the result. -/
theorem fin9 (plan) (fb : HB (F := F) c mB) : Agree mO.view ((kernelRun c fx f1 f2 f3 f4 f5 f6 f7 f8 f9 plan).1 fb) 9216 10240
    (result fx f1 f2 f3 f4 f5 f6 f7 f8 f9) :=
  .skip (W := 1024) rfl (by decide) <| .skip (W := 1024) rfl (by decide) <| .skip (W := 1024) rfl (by decide) <| .skip (W := 1024) rfl (by decide) <| .skip (W := 1024) rfl (by decide) <| .skip (W := 1024) rfl (by decide) <| .here (W := 1024) rfl rfl (by decide) (out9 c fx f1 f2 f3 f4 f5 f6 f7 f8 f9 fb)
/-- After the body, output chunk 10 holds those rows of the result. -/
theorem fin10 (plan) (fb : HB (F := F) c mB) : Agree mO.view ((kernelRun c fx f1 f2 f3 f4 f5 f6 f7 f8 f9 plan).1 fb) 10240 11264
    (result fx f1 f2 f3 f4 f5 f6 f7 f8 f9) :=
  .skip (W := 1024) rfl (by decide) <| .skip (W := 1024) rfl (by decide) <| .skip (W := 1024) rfl (by decide) <| .skip (W := 1024) rfl (by decide) <| .skip (W := 1024) rfl (by decide) <| .here (W := 1024) rfl rfl (by decide) (out10 c fx f1 f2 f3 f4 f5 f6 f7 f8 f9 fb)
/-- After the body, output chunk 11 holds those rows of the result. -/
theorem fin11 (plan) (fb : HB (F := F) c mB) : Agree mO.view ((kernelRun c fx f1 f2 f3 f4 f5 f6 f7 f8 f9 plan).1 fb) 11264 12288
    (result fx f1 f2 f3 f4 f5 f6 f7 f8 f9) :=
  .skip (W := 1024) rfl (by decide) <| .skip (W := 1024) rfl (by decide) <| .skip (W := 1024) rfl (by decide) <| .skip (W := 1024) rfl (by decide) <| .here (W := 1024) rfl rfl (by decide) (out11 c fx f1 f2 f3 f4 f5 f6 f7 f8 f9 fb)
/-- After the body, output chunk 12 holds those rows of the result. -/
theorem fin12 (plan) (fb : HB (F := F) c mB) : Agree mO.view ((kernelRun c fx f1 f2 f3 f4 f5 f6 f7 f8 f9 plan).1 fb) 12288 13312
    (result fx f1 f2 f3 f4 f5 f6 f7 f8 f9) :=
  .skip (W := 1024) rfl (by decide) <| .skip (W := 1024) rfl (by decide) <| .skip (W := 1024) rfl (by decide) <| .here (W := 1024) rfl rfl (by decide) (out12 c fx f1 f2 f3 f4 f5 f6 f7 f8 f9 fb)
/-- After the body, output chunk 13 holds those rows of the result. -/
theorem fin13 (plan) (fb : HB (F := F) c mB) : Agree mO.view ((kernelRun c fx f1 f2 f3 f4 f5 f6 f7 f8 f9 plan).1 fb) 13312 14336
    (result fx f1 f2 f3 f4 f5 f6 f7 f8 f9) :=
  .skip (W := 1024) rfl (by decide) <| .skip (W := 1024) rfl (by decide) <| .here (W := 1024) rfl rfl (by decide) (out13 c fx f1 f2 f3 f4 f5 f6 f7 f8 f9 fb)
/-- After the body, output chunk 14 holds those rows of the result. -/
theorem fin14 (plan) (fb : HB (F := F) c mB) : Agree mO.view ((kernelRun c fx f1 f2 f3 f4 f5 f6 f7 f8 f9 plan).1 fb) 14336 15360
    (result fx f1 f2 f3 f4 f5 f6 f7 f8 f9) :=
  .skip (W := 1024) rfl (by decide) <| .here (W := 1024) rfl rfl (by decide) (out14 c fx f1 f2 f3 f4 f5 f6 f7 f8 f9 fb)
/-- After the body, output chunk 15 holds those rows of the result. -/
theorem fin15 (plan) (fb : HB (F := F) c mB) : Agree mO.view ((kernelRun c fx f1 f2 f3 f4 f5 f6 f7 f8 f9 plan).1 fb) 15360 16384
    (result fx f1 f2 f3 f4 f5 f6 f7 f8 f9) :=
  .here (W := 1024) rfl rfl (by decide) (out15 c fx f1 f2 f3 f4 f5 f6 f7 f8 f9 fb)

/-- What the run leaves in the result's buffer, whatever the two buffers held before. -/
theorem run_eq (plan) (fo : HB (F := F) c mO) (fb : HB (F := F) c mB) :
    mO.view.writes (Elt F) fo ((kernelRun c fx f1 f2 f3 f4 f5 f6 f7 f8 f9 plan).1 fb) = result fx f1 f2 f3 f4 f5 f6 f7 f8 f9 := by
  rw [← View.read_whole (Val := Elt F) main_v0 (mO.view.writes (Elt F) fo ((kernelRun c fx f1 f2 f3 f4 f5 f6 f7 f8 f9 plan).1 fb))]
  funext y
  have hy : (y (0 : Fin 2)).val < 16384 := (y (0 : Fin 2)).isLt
  by_cases h0 : (y (0 : Fin 2)).val < 1024
  · exact fin0 c fx f1 f2 f3 f4 f5 f6 f7 f8 f9 plan fb fo y (by omega) h0
  by_cases h1 : (y (0 : Fin 2)).val < 2048
  · exact fin1 c fx f1 f2 f3 f4 f5 f6 f7 f8 f9 plan fb fo y (by omega) h1
  by_cases h2 : (y (0 : Fin 2)).val < 3072
  · exact fin2 c fx f1 f2 f3 f4 f5 f6 f7 f8 f9 plan fb fo y (by omega) h2
  by_cases h3 : (y (0 : Fin 2)).val < 4096
  · exact fin3 c fx f1 f2 f3 f4 f5 f6 f7 f8 f9 plan fb fo y (by omega) h3
  by_cases h4 : (y (0 : Fin 2)).val < 5120
  · exact fin4 c fx f1 f2 f3 f4 f5 f6 f7 f8 f9 plan fb fo y (by omega) h4
  by_cases h5 : (y (0 : Fin 2)).val < 6144
  · exact fin5 c fx f1 f2 f3 f4 f5 f6 f7 f8 f9 plan fb fo y (by omega) h5
  by_cases h6 : (y (0 : Fin 2)).val < 7168
  · exact fin6 c fx f1 f2 f3 f4 f5 f6 f7 f8 f9 plan fb fo y (by omega) h6
  by_cases h7 : (y (0 : Fin 2)).val < 8192
  · exact fin7 c fx f1 f2 f3 f4 f5 f6 f7 f8 f9 plan fb fo y (by omega) h7
  by_cases h8 : (y (0 : Fin 2)).val < 9216
  · exact fin8 c fx f1 f2 f3 f4 f5 f6 f7 f8 f9 plan fb fo y (by omega) h8
  by_cases h9 : (y (0 : Fin 2)).val < 10240
  · exact fin9 c fx f1 f2 f3 f4 f5 f6 f7 f8 f9 plan fb fo y (by omega) h9
  by_cases h10 : (y (0 : Fin 2)).val < 11264
  · exact fin10 c fx f1 f2 f3 f4 f5 f6 f7 f8 f9 plan fb fo y (by omega) h10
  by_cases h11 : (y (0 : Fin 2)).val < 12288
  · exact fin11 c fx f1 f2 f3 f4 f5 f6 f7 f8 f9 plan fb fo y (by omega) h11
  by_cases h12 : (y (0 : Fin 2)).val < 13312
  · exact fin12 c fx f1 f2 f3 f4 f5 f6 f7 f8 f9 plan fb fo y (by omega) h12
  by_cases h13 : (y (0 : Fin 2)).val < 14336
  · exact fin13 c fx f1 f2 f3 f4 f5 f6 f7 f8 f9 plan fb fo y (by omega) h13
  by_cases h14 : (y (0 : Fin 2)).val < 15360
  · exact fin14 c fx f1 f2 f3 f4 f5 f6 f7 f8 f9 plan fb fo y (by omega) h14
  exact fin15 c fx f1 f2 f3 f4 f5 f6 f7 f8 f9 plan fb fo y (by omega) hy

end

end Cert.KernelIdeal.Hand

end
-- ==== Proof.KernelIdealFrame.lean ====
/- The kernel's frame: it runs, leaves its arguments alone, returns every counter to zero and writes `resArr`. -/
module

public import proofs.«01_k».proof.Proof.KernelIdealOut

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffer the body writes by transfers of its own: the result. -/
def R0 : Finset (Ref sig .tc) := {main_v0}
/-- The buffer the body's transfers read: the array. -/
def H0 : Finset (Ref sig .tc) := {main_arg0}
/-- The array is not one of the staged buffers. -/
theorem H0_sub : H0 ⊆ Pipeline.restRefs sig spec0 := by decide
/-- Neither is the result, and it is not the array. -/
theorem R0_sub : R0 ⊆ Pipeline.restRefs sig spec0 \ H0 := by decide

set_option maxHeartbeats 800000 in
/-- The program up to the region: the host's casts and reshapes. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's three transfer counters. -/
abbrev osem0 : Fin 3 → SemLoc sig := fun j => (![SemLoc.dma 9, SemLoc.dma 10, SemLoc.dma 11] : Fin 3 → SemLoc sig) j
/-- The three counters are the body's own: none is a window's. -/
theorem ownSemFacts0 : Pipeline.OwnSemFacts spec0 osem0 := by decide
/-- The body's counters, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0
          ∗ semVal ((c : Thread nD τ), SemLoc.dma 11) 0) := by
  rw [Pipeline.ownSems0_eq_of_list c osem0 [0, 1, 2] (by decide) (by decide)]; rfl
/-- The buffers the body's transfers read, one by one: the array. -/
theorem hbmPts0_eq (c : Dev nD) :
    (bigSep H0 (fun b => ((c : Thread nD τ).loc b) ↦{fullShare} V m c b) : sProp 𝕄) = pt c mX (V m c main_arg0) := by
  rw [BI.bigSep_eq_bigSepL_of_eq [main_arg0] (by decide) (by decide)]; rfl
/-- The buffers the body's transfers write, one by one: the result. -/
theorem routedPts0_eq (c : Dev nD) (G : (b : Ref sig .tc) → Buf (Elt F) ((c : Thread nD τ).loc b)) :
    (Pipeline.routed R0 c G : sProp 𝕄) = pt c mO (G main_v0) := by
  unfold Pipeline.routed; rw [BI.bigSep_eq_bigSepL_of_eq [main_v0] (by decide) (by decide)]; rfl

/-- What window 0 stages. -/
abbrev blk0 (c : Dev nD) : Vec F S1x16384 .f32 := iblk m c 0 t0_0
/-- What window 1 stages. -/
abbrev blk1 (c : Dev nD) : Vec F S256x512 .bf16 := iblk m c 1 t0_0
/-- What window 2 stages. -/
abbrev blk2 (c : Dev nD) : Vec F S256x1 .f32 := iblk m c 2 t0_0
/-- What window 3 stages. -/
abbrev blk3 (c : Dev nD) : Vec F S1x256 .f32 := iblk m c 3 t0_0
/-- What window 4 stages. -/
abbrev blk4 (c : Dev nD) : Vec F S1x1 .f32 := iblk m c 4 t0_0
/-- What window 5 stages. -/
abbrev blk5 (c : Dev nD) : Vec F S256x512 .f32 := iblk m c 5 t0_0
/-- What window 6 stages. -/
abbrev blk6 (c : Dev nD) : Vec F S1x256 .f32 := iblk m c 6 t0_0
/-- What window 7 stages. -/
abbrev blk7 (c : Dev nD) : Vec F S512x256 .f32 := iblk m c 7 t0_0
/-- What window 8 stages. -/
abbrev blk8 (c : Dev nD) : Vec F S1x512 .f32 := iblk m c 8 t0_0

/-- The result's contents when the body is done. -/
def resArr (c : Dev nD) : Vec F S16384x512 .f32 :=
  result (V m c main_arg0) (blk0 m c) (blk1 m c) (blk2 m c) (blk3 m c) (blk4 m c) (blk5 m c) (blk6 m c) (blk7 m c) (blk8 m c)

/-- Every buffer's contents after the body. -/
def G (c : Dev nD) : (b : Ref sig .tc) → Buf (Elt F) ((c : Thread nD τ).loc b) := Function.update (V m c) main_v0 (resArr m c)
/-- The result after the body. -/
theorem G_out (c : Dev nD) : G m c main_v0 = resArr m c := by unfold G; rw [Function.update_self]

/-- What the body holds between points, part by part: scratch, random register, counters, array and result. -/
theorem PhiD_eq (c : Dev nD) (G' : (c : Dev nD) → (b : Ref sig .tc) → Buf (Elt F) ((c : Thread nD τ).loc b)) :
    (Pipeline.ΦDRG osem0 spec0 H0 R0 (V m) G' c : sProp 𝕄)
      = iprop((∃ f, pt c mB f) ∗ (∃ r, prngReg c r)
          ∗ iprop(semVal ((c : Thread nD τ), SemLoc.dma 9) 0 ∗ semVal ((c : Thread nD τ), SemLoc.dma 10) 0
          ∗ semVal ((c : Thread nD τ), SemLoc.dma 11) 0)
          ∗ pt c mX (V m c main_arg0) ∗ pt c mO (G' c main_v0)) := by
  rw [Pipeline.ΦDRG_eq, scopedRest0_eq, ownSems00_eq, hbmPts0_eq, routedPts0_eq]

/-- What the body holds between points: the result's buffer at its launch contents first, at `resArr` afterwards. -/
def PhiAt (c : Dev nD) : ℕ → sProp 𝕄
  | 0 => Pipeline.ΦDRG osem0 spec0 H0 R0 (V m) (V m) c
  | _ + 1 => Pipeline.ΦDRG osem0 spec0 H0 R0 (V m) (G m) c

/-- The proof data of the one pipeline: inputs left in place, the result's buffer at its launch contents before the
    body and at `resArr` after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ t := PhiAt m c t.val
  q _ := fullShare
  owed _ := 0

/-- A window stages from its array at the launch contents after the host operations. -/
theorem A_eq (c : Dev nD) (w : Fin cfg0.W) : (dats m 0 c).A w = V m c (Pipeline.arrRef spec0 w) := by
  dsimp only [dats]
/-- Window 0 is left as it was staged. -/
theorem after_0 (c : Dev nD) (t : Fin cfg0.N) : (dats m 0 c).after 0 t = iblk m c 0 t := by dsimp only [dats]
/-- Window 1 is left as it was staged. -/
theorem after_1 (c : Dev nD) (t : Fin cfg0.N) : (dats m 0 c).after 1 t = iblk m c 1 t := by dsimp only [dats]
/-- Window 2 is left as it was staged. -/
theorem after_2 (c : Dev nD) (t : Fin cfg0.N) : (dats m 0 c).after 2 t = iblk m c 2 t := by dsimp only [dats]
/-- Window 3 is left as it was staged. -/
theorem after_3 (c : Dev nD) (t : Fin cfg0.N) : (dats m 0 c).after 3 t = iblk m c 3 t := by dsimp only [dats]
/-- Window 4 is left as it was staged. -/
theorem after_4 (c : Dev nD) (t : Fin cfg0.N) : (dats m 0 c).after 4 t = iblk m c 4 t := by dsimp only [dats]
/-- Window 5 is left as it was staged. -/
theorem after_5 (c : Dev nD) (t : Fin cfg0.N) : (dats m 0 c).after 5 t = iblk m c 5 t := by dsimp only [dats]
/-- Window 6 is left as it was staged. -/
theorem after_6 (c : Dev nD) (t : Fin cfg0.N) : (dats m 0 c).after 6 t = iblk m c 6 t := by dsimp only [dats]
/-- Window 7 is left as it was staged. -/
theorem after_7 (c : Dev nD) (t : Fin cfg0.N) : (dats m 0 c).after 7 t = iblk m c 7 t := by dsimp only [dats]
/-- Window 8 is left as it was staged. -/
theorem after_8 (c : Dev nD) (t : Fin cfg0.N) : (dats m 0 c).after 8 t = iblk m c 8 t := by dsimp only [dats]
/-- Before the body the result is at its launch contents. -/
theorem Phi_before (c : Dev nD) (t : Fin cfg0.N) : (dats m 0 c).Φ t.castSucc = Pipeline.ΦDRG osem0 spec0 H0 R0 (V m) (V m) c := by
  rw [fin_N0 t]; rfl
/-- After the body the result is at `resArr`. -/
theorem Phi_after (c : Dev nD) (t : Fin cfg0.N) : (dats m 0 c).Φ t.succ = Pipeline.ΦDRG osem0 spec0 H0 R0 (V m) (G m) c :=
  rfl
/-- The body finds in window 0 the staged block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The body finds in window 1 the staged block. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- The body finds in window 2 the staged block. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- The body finds in window 3 the staged block. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- The body finds in window 4 the staged block. -/
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- The body finds in window 5 the staged block. -/
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- The body finds in window 6 the staged block. -/
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
/-- The body finds in window 7 the staged block. -/
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
/-- The body finds in window 8 the staged block. -/
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
/-- Window 0 as the pipeline hands it over is the staging buffer with its block. -/
theorem pre_0 (c : Dev nD) : (iprop(∃ d, owns (c : Thread nD τ) (st0_0 t0_0) fullShare ((dats m 0 c).before 0 t0_0 d)) : sProp 𝕄)
    = iprop(∃ _d : (cfg0.win 0).block.Idx → Elt F (cfg0.win 0).elt, pt c m1 (blk0 m c)) := by
  congr 1
  funext d
  rw [before_0]
  exact owns_whole _ _ _ _
/-- Window 0 as the body leaves it is what the pipeline takes back. -/
theorem post_0 (c : Dev nD) : (owns (c : Thread nD τ) (st0_0 t0_0) fullShare ((dats m 0 c).after 0 t0_0) : sProp 𝕄) = pt c m1 (blk0 m c) := by
  rw [after_0]
  exact owns_whole _ _ _ _
/-- Window 1 as the pipeline hands it over is the staging buffer with its block. -/
theorem pre_1 (c : Dev nD) : (iprop(∃ d, owns (c : Thread nD τ) (st0_1 t0_0) fullShare ((dats m 0 c).before 1 t0_0 d)) : sProp 𝕄)
    = iprop(∃ _d : (cfg0.win 1).block.Idx → Elt F (cfg0.win 1).elt, pt c m2 (blk1 m c)) := by
  congr 1
  funext d
  rw [before_1]
  exact owns_whole _ _ _ _
/-- Window 1 as the body leaves it is what the pipeline takes back. -/
theorem post_1 (c : Dev nD) : (owns (c : Thread nD τ) (st0_1 t0_0) fullShare ((dats m 0 c).after 1 t0_0) : sProp 𝕄) = pt c m2 (blk1 m c) := by
  rw [after_1]
  exact owns_whole _ _ _ _
/-- Window 2 as the pipeline hands it over is the staging buffer with its block. -/
theorem pre_2 (c : Dev nD) : (iprop(∃ d, owns (c : Thread nD τ) (st0_2 t0_0) fullShare ((dats m 0 c).before 2 t0_0 d)) : sProp 𝕄)
    = iprop(∃ _d : (cfg0.win 2).block.Idx → Elt F (cfg0.win 2).elt, pt c m3 (blk2 m c)) := by
  congr 1
  funext d
  rw [before_2]
  exact owns_whole _ _ _ _
/-- Window 2 as the body leaves it is what the pipeline takes back. -/
theorem post_2 (c : Dev nD) : (owns (c : Thread nD τ) (st0_2 t0_0) fullShare ((dats m 0 c).after 2 t0_0) : sProp 𝕄) = pt c m3 (blk2 m c) := by
  rw [after_2]
  exact owns_whole _ _ _ _
/-- Window 3 as the pipeline hands it over is the staging buffer with its block. -/
theorem pre_3 (c : Dev nD) : (iprop(∃ d, owns (c : Thread nD τ) (st0_3 t0_0) fullShare ((dats m 0 c).before 3 t0_0 d)) : sProp 𝕄)
    = iprop(∃ _d : (cfg0.win 3).block.Idx → Elt F (cfg0.win 3).elt, pt c m4 (blk3 m c)) := by
  congr 1
  funext d
  rw [before_3]
  exact owns_whole _ _ _ _
/-- Window 3 as the body leaves it is what the pipeline takes back. -/
theorem post_3 (c : Dev nD) : (owns (c : Thread nD τ) (st0_3 t0_0) fullShare ((dats m 0 c).after 3 t0_0) : sProp 𝕄) = pt c m4 (blk3 m c) := by
  rw [after_3]
  exact owns_whole _ _ _ _
/-- Window 4 as the pipeline hands it over is the staging buffer with its block. -/
theorem pre_4 (c : Dev nD) : (iprop(∃ d, owns (c : Thread nD τ) (st0_4 t0_0) fullShare ((dats m 0 c).before 4 t0_0 d)) : sProp 𝕄)
    = iprop(∃ _d : (cfg0.win 4).block.Idx → Elt F (cfg0.win 4).elt, pt c m5 (blk4 m c)) := by
  congr 1
  funext d
  rw [before_4]
  exact owns_whole _ _ _ _
/-- Window 4 as the body leaves it is what the pipeline takes back. -/
theorem post_4 (c : Dev nD) : (owns (c : Thread nD τ) (st0_4 t0_0) fullShare ((dats m 0 c).after 4 t0_0) : sProp 𝕄) = pt c m5 (blk4 m c) := by
  rw [after_4]
  exact owns_whole _ _ _ _
/-- Window 5 as the pipeline hands it over is the staging buffer with its block. -/
theorem pre_5 (c : Dev nD) : (iprop(∃ d, owns (c : Thread nD τ) (st0_5 t0_0) fullShare ((dats m 0 c).before 5 t0_0 d)) : sProp 𝕄)
    = iprop(∃ _d : (cfg0.win 5).block.Idx → Elt F (cfg0.win 5).elt, pt c m6 (blk5 m c)) := by
  congr 1
  funext d
  rw [before_5]
  exact owns_whole _ _ _ _
/-- Window 5 as the body leaves it is what the pipeline takes back. -/
theorem post_5 (c : Dev nD) : (owns (c : Thread nD τ) (st0_5 t0_0) fullShare ((dats m 0 c).after 5 t0_0) : sProp 𝕄) = pt c m6 (blk5 m c) := by
  rw [after_5]
  exact owns_whole _ _ _ _
/-- Window 6 as the pipeline hands it over is the staging buffer with its block. -/
theorem pre_6 (c : Dev nD) : (iprop(∃ d, owns (c : Thread nD τ) (st0_6 t0_0) fullShare ((dats m 0 c).before 6 t0_0 d)) : sProp 𝕄)
    = iprop(∃ _d : (cfg0.win 6).block.Idx → Elt F (cfg0.win 6).elt, pt c m7 (blk6 m c)) := by
  congr 1
  funext d
  rw [before_6]
  exact owns_whole _ _ _ _
/-- Window 6 as the body leaves it is what the pipeline takes back. -/
theorem post_6 (c : Dev nD) : (owns (c : Thread nD τ) (st0_6 t0_0) fullShare ((dats m 0 c).after 6 t0_0) : sProp 𝕄) = pt c m7 (blk6 m c) := by
  rw [after_6]
  exact owns_whole _ _ _ _
/-- Window 7 as the pipeline hands it over is the staging buffer with its block. -/
theorem pre_7 (c : Dev nD) : (iprop(∃ d, owns (c : Thread nD τ) (st0_7 t0_0) fullShare ((dats m 0 c).before 7 t0_0 d)) : sProp 𝕄)
    = iprop(∃ _d : (cfg0.win 7).block.Idx → Elt F (cfg0.win 7).elt, pt c m8 (blk7 m c)) := by
  congr 1
  funext d
  rw [before_7]
  exact owns_whole _ _ _ _
/-- Window 7 as the body leaves it is what the pipeline takes back. -/
theorem post_7 (c : Dev nD) : (owns (c : Thread nD τ) (st0_7 t0_0) fullShare ((dats m 0 c).after 7 t0_0) : sProp 𝕄) = pt c m8 (blk7 m c) := by
  rw [after_7]
  exact owns_whole _ _ _ _
/-- Window 8 as the pipeline hands it over is the staging buffer with its block. -/
theorem pre_8 (c : Dev nD) : (iprop(∃ d, owns (c : Thread nD τ) (st0_8 t0_0) fullShare ((dats m 0 c).before 8 t0_0 d)) : sProp 𝕄)
    = iprop(∃ _d : (cfg0.win 8).block.Idx → Elt F (cfg0.win 8).elt, pt c m9 (blk8 m c)) := by
  congr 1
  funext d
  rw [before_8]
  exact owns_whole _ _ _ _
/-- Window 8 as the body leaves it is what the pipeline takes back. -/
theorem post_8 (c : Dev nD) : (owns (c : Thread nD τ) (st0_8 t0_0) fullShare ((dats m 0 c).after 8 t0_0) : sProp 𝕄) = pt c m9 (blk8 m c) := by
  rw [after_8]
  exact owns_whole _ _ _ _

/-- What the body is given: its own resources and the nine staged windows. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
/-- What the body gives back: the same, the result written. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body's run, the contents it leaves in the result's buffer given a name. -/
theorem run_to (c : Dev nD) (fx : HB (F := F) c mX) (f1 : HB (F := F) c m1) (f2 : HB (F := F) c m2) (f3 : HB (F := F) c m3)
    (f4 : HB (F := F) c m4) (f5 : HB (F := F) c m5) (f6 : HB (F := F) c m6) (f7 : HB (F := F) c m7) (f8 : HB (F := F) c m8) (f9 : HB (F := F) c m9)
    (plan : Transfers.BatchOf (c : Thread nD τ) (SemLoc.dma (sig := sig) 11) 16 (windows := true))
    (fo : HB (F := F) c mO) (fb : HB (F := F) c mB) (W : Waits sig Unit) (X : HB (F := F) c mO)
    (hX : mO.view.writes (Elt F) fo ((kernelRun c fx f1 f2 f3 f4 f5 f6 f7 f8 f9 plan).1 fb) = X) (K : PUnit → sProp 𝕄) :
        iprop(pt c mX fx ∗ pt c m1 f1 ∗ pt c m2 f2 ∗ pt c m3 f3 ∗ pt c m4 f4 ∗ pt c m5 f5 ∗ pt c m6 f6 ∗ pt c m7 f7 ∗ pt c m8 f8 ∗ pt c m9 f9
            ∗ pt c mO fo ∗ pt c mB fb
            ∗ semVal ((c : Thread nD τ), SemLoc.dma 9) 0 ∗ semVal ((c : Thread nD τ), SemLoc.dma 10) 0
            ∗ semVal ((c : Thread nD τ), SemLoc.dma 11) 0
            ∗ owes (c : Thread nD τ) 0 W
            ∗ (iprop(pt c mX fx ∗ pt c m1 f1 ∗ pt c m2 f2 ∗ pt c m3 f3 ∗ pt c m4 f4 ∗ pt c m5 f5 ∗ pt c m6 f6 ∗ pt c m7 f7 ∗ pt c m8 f8 ∗ pt c m9 f9
            ∗ pt c mO X ∗ (∃ fb, pt c mB fb)
            ∗ semVal ((c : Thread nD τ), SemLoc.dma 9) 0 ∗ semVal ((c : Thread nD τ), SemLoc.dma 10) 0
            ∗ semVal ((c : Thread nD τ), SemLoc.dma 11) 0
                ∗ (∃ W', owes (c : Thread nD τ) 0 W')) -∗ K ⟨⟩))
          ⊢ wp frame (wpE (defs₀ (F := F)) Variants.none c none) Set.univ
              (cc0__fused_kernel mX (Memref.isWhole_whole _) m1 (Memref.isWhole_whole _) m2 (Memref.isWhole_whole _) m3 (Memref.isWhole_whole _)
                m4 (Memref.isWhole_whole _) m5 (Memref.isWhole_whole _) m6 (Memref.isWhole_whole _) m7 (Memref.isWhole_whole _)
                m8 (Memref.isWhole_whole _) m9 (Memref.isWhole_whole _) mO (Memref.isWhole_whole _) mB (Memref.isWhole_whole _)
                cc0_scratch1 cc0_scratch2) K := by
  subst hX; exact (kernelRun c fx f1 f2 f3 f4 f5 f6 f7 f8 f9 plan).2 fo fb W K

/-- The body's call at the one point, its operands named. -/
theorem bodyAt_eq : (bodyAt0 (F := F) t0_0) = cc0__fused_kernel mX (Memref.isWhole_whole _) m1 (Memref.isWhole_whole _) m2 (Memref.isWhole_whole _) m3 (Memref.isWhole_whole _)
                m4 (Memref.isWhole_whole _) m5 (Memref.isWhole_whole _) m6 (Memref.isWhole_whole _) m7 (Memref.isWhole_whole _)
                m8 (Memref.isWhole_whole _) m9 (Memref.isWhole_whole _) mO (Memref.isWhole_whole _) mB (Memref.isWhole_whole _)
                cc0_scratch1 cc0_scratch2 := rfl

/-- The body at its one point: it leaves `resArr` in the result's buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [Phi_before, Phi_after, PhiD_eq, PhiD_eq, G_out]
  unfold Dat.owesAt Pipeline.owesWithin
  rw [show (dats m 0 c).owed t.castSucc = 0 from rfl, show (dats m 0 c).owed t.succ = 0 from rfl]
  rw [fin_N0 t]
  rw [pre_0, pre_1, pre_2, pre_3, pre_4, pre_5, pre_6, pre_7, pre_8, post_0, post_1, post_2, post_3, post_4, post_5, post_6, post_7, post_8, bodyAt_eq]
  iintro ⟨⟨⟨%fb, HB⟩, Hg, ⟨Hq0, Hq1, Hq2⟩, HX, HO⟩, ⟨%W, -, HW⟩, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩⟩
  iapply (run_to c (V m c main_arg0) (blk0 m c) (blk1 m c) (blk2 m c) (blk3 m c) (blk4 m c) (blk5 m c) (blk6 m c) (blk7 m c) (blk8 m c) trivial (V m c main_v0) fb W (resArr m c) (run_eq c _ _ _ _ _ _ _ _ _ _ _ _ _))
  isplitl [HX]; · iexact HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HO]; · iexact HO
  isplitl [HB]; · iexact HB
  isplitl [Hq0]; · iexact Hq0
  isplitl [Hq1]; · iexact Hq1
  isplitl [Hq2]; · iexact Hq2
  isplitl [HW]; · iexact HW
  iintro ⟨HX, H1, H2, H3, H4, H5, H6, H7, H8, H9, HO, HB, Hq0, Hq1, Hq2, ⟨%W', HW'⟩⟩
  isplitl [HB Hg Hq0 Hq1 Hq2 HX HO]
  · isplitl [HB]; · iexact HB
    isplitl [Hg]; · iexact Hg
    isplitl [Hq0 Hq1 Hq2]
    · isplitl [Hq0]; · iexact Hq0
      isplitl [Hq1]; · iexact Hq1
      iexact Hq2
    isplitl [HX]; · iexact HX
    iexact HO
  isplitl [HW']
  · iexists W'; isplitr; · ipureintro; exact fun _ _ => Or.inl trivial
    iexact HW'
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The region's procedure is the body at its point. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The whole program runs, leaves everything it does not write as it was, and leaves `resArr` in the result. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := fun c => by rw [show (dats m 0 c).Φ 0 = _ from Phi_before m c t0_0])
    (hout := fun c => by rw [show (dats m 0 c).Φ (Fin.last cfg0.N) = _ from Phi_after m c t0_0])

/-- Every argument ends unchanged, every counter ends at zero, and the result holds `resArr`. -/
theorem run_value : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) ∧ ∀ c : Dev nD, r.2.mem ((c.tc : Thread nD τ).loc main_v0) = resArr m c) :=
  (θ_run defs _ _).mono (fun _ h => ⟨⟨fun c => ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).1 3).trans (((dats m 0 c).arrAt_in 3 rfl _).trans ((A_eq m c 3).trans (V_main_arg4 m c))),
      ((h.1.toR c).2 main_arg5 (Finset.mem_sdiff.mpr ⟨Pipeline.mem_restRefs_of main_arg5 (by decide) (by decide), by decide⟩)).trans (V_main_arg5 m c),
      ((h.1.toR c).1 5).trans (((dats m 0 c).arrAt_in 5 rfl _).trans ((A_eq m c 5).trans (V_main_arg6 m c))),
      ((h.1.toR c).2 main_arg7 (Finset.mem_sdiff.mpr ⟨Pipeline.mem_restRefs_of main_arg7 (by decide) (by decide), by decide⟩)).trans (V_main_arg7 m c),
      ((h.1.toR c).1 7).trans (((dats m 0 c).arrAt_in 7 rfl _).trans ((A_eq m c 7).trans (V_main_arg8 m c))),
      ((h.1.toR c).2 main_arg9 (Finset.mem_sdiff.mpr ⟨Pipeline.mem_restRefs_of main_arg9 (by decide) (by decide), by decide⟩)).trans (V_main_arg9 m c)⟩, h.2⟩,
    fun c => (h.1.written c (by decide)).trans (G_out m c)⟩) (run_main m ρ)

end Cert.KernelIdeal.Hand

end
-- ==== Proof.Model.lean ====
/- The two small networks that kernel and reference share, as functions of one row. -/
module

public import Idealize.ShloMosaic.PureOps.Ideal

@[expose] public section

noncomputable section

namespace Cert.Model

open scoped BigOperators
open Idealize.ShloMosaic

/-- The score of a row before its sigmoid: a hidden layer of 256 rectified units and one linear output. -/
def score (w1 : Fin 256 → Fin 512 → EReal) (b1 w2 : Fin 256 → EReal) (b2 : EReal) (x : Fin 512 → EReal) : EReal :=
  (∑ a, w2 a * max ((∑ h, w1 a h * x h) + b1 a) 0) + b2

/-- What is read out of a memory row at column `h`: a hidden layer of 256 rectified units, a linear layer and a sigmoid. -/
def readout (r1 : Fin 256 → Fin 512 → EReal) (rb1 : Fin 256 → EReal) (r2 : Fin 512 → Fin 256 → EReal) (rb2 : Fin 512 → EReal)
    (c : Fin 512 → EReal) (h : Fin 512) : EReal :=
  Ideal.logistic ((∑ a, max ((∑ k, c k * r1 a k) + rb1 a) 0 * r2 h a) + rb2 h)

/-- The ten arguments, as functions of their indices. -/
structure Args where
  /-- The rows. -/
  x : Fin 16384 → Fin 512 → EReal
  /-- The importance of each row. -/
  im : Fin 16384 → EReal
  /-- The first layer of the score. -/
  w1 : Fin 256 → Fin 512 → EReal
  /-- Its bias. -/
  b1 : Fin 256 → EReal
  /-- The second layer of the score. -/
  w2 : Fin 256 → EReal
  /-- Its bias. -/
  b2 : EReal
  /-- The first layer of the readout. -/
  r1 : Fin 256 → Fin 512 → EReal
  /-- Its bias. -/
  rb1 : Fin 256 → EReal
  /-- The second layer of the readout. -/
  r2 : Fin 512 → Fin 256 → EReal
  /-- Its bias. -/
  rb2 : Fin 512 → EReal

variable (A : Args)

/-- The score of row `n`. -/
def Args.z (n : Fin 16384) : EReal := score A.w1 A.b1 A.w2 A.b2 (A.x n)

/-- The weight of row `n`: the exponential of its importance less one if its score is above zero. -/
def Args.wt (n : Fin 16384) : EReal := if 0 < A.z n then Ideal.exp (A.im n - 1) else 0

/-- The weighted mean of the rows, at column `k`. -/
def Args.mean (k : Fin 512) : EReal :=
  Ideal.div (∑ n, A.wt n * A.x n k) (max (∑ n, A.wt n) (Ideal.ofBits .f32 0x0DA24260#32))

/-- The result: each row plus what is read out of the mean, if any row has weight. -/
def Args.out (n : Fin 16384) (h : Fin 512) : EReal :=
  A.x n h + if 0 < ∑ n, A.wt n then readout A.r1 A.rb1 A.r2 A.rb2 A.mean h else 0

end Cert.Model

end
-- ==== Proof.KernelIdealTile.lean ====
/- What one tile of 2048 rows contributes, read at an index over the extended reals. -/
module

public import proofs.«01_k».proof.Proof.KernelIdealOut
public import proofs.«01_k».proof.Proof.Model
public import Idealize.ShloMosaic.Lib.Pointwise

@[expose] public section

set_option maxRecDepth 16384

noncomputable section

namespace Cert.KernelIdeal.Hand

open Idealize.ShloMosaic Idealize.ShloMosaic.TcCoe
open Cert.KernelIdeal.Gen
open scoped BigOperators

section
variable (xt : Vec Ideal S2048x512 .f32) (it : Vec Ideal S1x2048 .f32) (w1 : Vec Ideal S256x512 .bf16) (b1 : Vec Ideal S256x1 .f32)
  (w2 : Vec Ideal S1x256 .f32) (b2 : Vec Ideal S1x1 .f32)

/-- The weight of row `j` of a tile: the exponential of its importance less one if its score is above zero, and zero otherwise. -/
theorem pay9_apply (j : Fin 2048) :
    k0_pay9 (F := Ideal) xt it w1 b1 w2 b2 (ix2 (0 : Fin 1) j)
      = if 0 < Model.score (fun a h => w1 (ix2 a h)) (fun a => b1 (ix2 a (0 : Fin 1))) (fun a => w2 (ix2 (0 : Fin 1) a))
          (b2 (ix2 (0 : Fin 1) (0 : Fin 1))) (fun h => xt (ix2 j h))
        then Ideal.exp (it (ix2 (0 : Fin 1) j) - 1) else 0 := by
  pointwise [k0_pay9, k0_pay8]
  rfl

/-- The running total of weights grows by the weights of the tile. -/
theorem pay10_apply (d : EReal) :
    k0_pay10 (F := Ideal) d xt it w1 b1 w2 b2 = d + ∑ j : Fin 2048, k0_pay9 (F := Ideal) xt it w1 b1 w2 b2 (ix2 (0 : Fin 1) j) := by
  unfold k0_pay10 extractAt
  generalize k0_pay9 (F := Ideal) xt it w1 b1 w2 b2 = e
  pointwise
  simp

/-- The running weighted sum of rows grows by the weighted rows of the tile. -/
theorem pay11_apply (v : FVec Ideal S1x512 .f32) (h : Fin 512) :
    k0_pay11 (F := Ideal) v xt it w1 b1 w2 b2 (ix2 (0 : Fin 1) h)
      = v (ix2 (0 : Fin 1) h) + ∑ j : Fin 2048, k0_pay9 (F := Ideal) xt it w1 b1 w2 b2 (ix2 (0 : Fin 1) j) * xt (ix2 j h) := by
  unfold k0_pay11
  generalize k0_pay9 (F := Ideal) xt it w1 b1 w2 b2 = e
  pointwise [k0_pay8]

end

section
variable (d : EReal) (c : FVec Ideal S1x512 .f32) (r1 : Vec Ideal S256x512 .f32) (rb1 : Vec Ideal S1x256 .f32)
  (r2 : Vec Ideal S512x256 .f32) (rb2 : Vec Ideal S1x512 .f32)

/-- The row added to the output: what is read out of the mean if the total weight is above zero, and zero otherwise. -/
theorem pay41_apply (h : Fin 512) :
    k0_pay41 (F := Ideal) d c r1 rb1 r2 rb2 (ix2 (0 : Fin 1) h)
      = if 0 < d then Model.readout (fun a k => r1 (ix2 a k)) (fun a => rb1 (ix2 (0 : Fin 1) a)) (fun k a => r2 (ix2 k a))
          (fun k => rb2 (ix2 (0 : Fin 1) k)) (fun k => c (ix2 (0 : Fin 1) k)) h else 0 := by
  pointwise [k0_pay41]
  split_ifs
  · pointwise
    rfl
  · pointwise

end

end Cert.KernelIdeal.Hand

end
-- ==== Proof.KernelIdealSums.lean ====
/- The kernel's running totals after the eight tiles, as sums over all the rows. -/
module

public import proofs.«01_k».proof.Proof.KernelIdealTile

@[expose] public section

set_option maxRecDepth 16384

noncomputable section

namespace Cert.KernelIdeal.Hand

open Idealize.ShloMosaic Idealize.ShloMosaic.TcCoe
open Cert.KernelIdeal.Gen
open scoped BigOperators

/-- A sum over 16384 rows, taken as eight runs of 2048. -/
theorem sum_tiles (f : Fin 16384 → EReal) :
    ∑ i, f i = ∑ t : Fin 8, ∑ j : Fin 2048, f ⟨2048 * t.val + j.val, by omega⟩ := by
  rw [← Fintype.sum_prod_type', ← Equiv.sum_comp (finProdFinEquiv (m := 8) (n := 2048)) f]
  refine Finset.sum_congr rfl fun p _ => congrArg f (Fin.ext ?_)
  simp [finProdFinEquiv, Nat.add_comm]

/-- A tile's rows are the array's rows from its offset on. -/
theorem xTile_apply (x : Vec Ideal S16384x512 .f32) (o : ℕ) (h) (j : Fin 2048) (k : Fin 512) (ho : o + j.val < 16384) :
    xTile x o h (ix2 j k) = x (ix2 (⟨o + j.val, ho⟩ : Fin 16384) k) := by
  refine congrArg x (funext fun a => Fin.ext ?_)
  rw [Rect.emb_apply]
  fin_cases a <;> simp [Rect.unit, ix2]

/-- A tile's importances are the array's from its offset on. -/
theorem iTile_apply (x : Vec Ideal S1x16384 .f32) (o : ℕ) (h) (j : Fin 2048) (ho : o + j.val < 16384) :
    iTile x o h (ix2 (0 : Fin 1) j) = x (ix2 (0 : Fin 1) (⟨o + j.val, ho⟩ : Fin 16384)) := by
  refine congrArg x (funext fun a => Fin.ext ?_)
  rw [Rect.emb_apply]
  fin_cases a <;> simp [Rect.unit, ix2]

variable (x : Vec Ideal S16384x512 .f32) (i : Vec Ideal S1x16384 .f32) (w1 : Vec Ideal S256x512 .bf16) (b1 : Vec Ideal S256x1 .f32)
  (w2 : Vec Ideal S1x256 .f32) (b2 : Vec Ideal S1x1 .f32)

/-- The weight of row `n` of the array. -/
def rowW (n : Fin 16384) : EReal :=
  if 0 < Model.score (fun a h => w1 (ix2 a h)) (fun a => b1 (ix2 a (0 : Fin 1))) (fun a => w2 (ix2 (0 : Fin 1) a))
      (b2 (ix2 (0 : Fin 1) (0 : Fin 1))) (fun h => x (ix2 n h))
  then Ideal.exp (i (ix2 (0 : Fin 1) n) - 1) else 0

/-- The weights of a tile are those of its rows. -/
theorem pay9_tile (t : Fin 8) (o : ℕ) (ho : o = 2048 * t.val) (h h') (j : Fin 2048) :
    k0_pay9 (F := Ideal) (xTile x o h) (iTile i o h') w1 b1 w2 b2 (ix2 (0 : Fin 1) j)
      = rowW x i w1 b1 w2 b2 ⟨2048 * t.val + j.val, by omega⟩ := by
  subst ho
  have hj : 2048 * t.val + j.val < 16384 := by omega
  rw [pay9_apply, iTile_apply i _ h' j hj]
  simp only [xTile_apply x _ h j _ hj]
  rfl

/-- One tile's step of the total weight. -/
theorem pay10_tile (d : EReal) (t : Fin 8) (o : ℕ) (ho : o = 2048 * t.val) (h h') :
    k0_pay10 (F := Ideal) d (xTile x o h) (iTile i o h') w1 b1 w2 b2
      = d + ∑ j : Fin 2048, rowW x i w1 b1 w2 b2 ⟨2048 * t.val + j.val, by omega⟩ := by
  rw [pay10_apply]
  simp only [pay9_tile x i w1 b1 w2 b2 t o ho h h']

/-- One tile's step of the weighted sum of rows. -/
theorem pay11_tile (v : FVec Ideal S1x512 .f32) (t : Fin 8) (o : ℕ) (ho : o = 2048 * t.val) (h h') (k : Fin 512) :
    k0_pay11 (F := Ideal) v (xTile x o h) (iTile i o h') w1 b1 w2 b2 (ix2 (0 : Fin 1) k)
      = v (ix2 (0 : Fin 1) k) + ∑ j : Fin 2048, rowW x i w1 b1 w2 b2 ⟨2048 * t.val + j.val, by omega⟩
          * x (ix2 (⟨2048 * t.val + j.val, by omega⟩ : Fin 16384) k) := by
  rw [pay11_apply]
  simp only [pay9_tile x i w1 b1 w2 b2 t o ho h h']
  subst ho
  refine congrArg _ (Finset.sum_congr rfl fun j _ => ?_)
  rw [xTile_apply x _ h j k (by omega)]

/-- The total weight after the last tile is the sum of all the rows' weights. -/
theorem den7_eq : den7 (F := Ideal) x i w1 b1 w2 b2 = ∑ n, rowW x i w1 b1 w2 b2 n := by
  rw [sum_tiles, Fin.sum_univ_eight]
  unfold den7 den6 den5 den4 den3 den2 den1 den0
  rw [pay10_tile x i w1 b1 w2 b2 _ 7 14336 rfl, pay10_tile x i w1 b1 w2 b2 _ 6 12288 rfl, pay10_tile x i w1 b1 w2 b2 _ 5 10240 rfl,
    pay10_tile x i w1 b1 w2 b2 _ 4 8192 rfl, pay10_tile x i w1 b1 w2 b2 _ 3 6144 rfl, pay10_tile x i w1 b1 w2 b2 _ 2 4096 rfl,
    pay10_tile x i w1 b1 w2 b2 _ 1 2048 rfl, pay10_tile x i w1 b1 w2 b2 _ 0 0 rfl]
  rw [show (Scalar.ofBits .f32 0x00000000#32 : Ideal .f32) = 0 from Ideal.ofBits_zero_f32, zero_add]

/-- The weighted sum after the last tile is the sum over all the rows. -/
theorem num7_eq (k : Fin 512) :
    num7 (F := Ideal) x i w1 b1 w2 b2 (ix2 (0 : Fin 1) k) = ∑ n, rowW x i w1 b1 w2 b2 n * x (ix2 n k) := by
  rw [sum_tiles, Fin.sum_univ_eight]
  unfold num7 num6 num5 num4 num3 num2 num1 num0
  rw [pay11_tile x i w1 b1 w2 b2 _ 7 14336 rfl, pay11_tile x i w1 b1 w2 b2 _ 6 12288 rfl, pay11_tile x i w1 b1 w2 b2 _ 5 10240 rfl,
    pay11_tile x i w1 b1 w2 b2 _ 4 8192 rfl, pay11_tile x i w1 b1 w2 b2 _ 3 6144 rfl, pay11_tile x i w1 b1 w2 b2 _ 2 4096 rfl,
    pay11_tile x i w1 b1 w2 b2 _ 1 2048 rfl, pay11_tile x i w1 b1 w2 b2 _ 0 0 rfl]
  rw [show k0_pay1 (F := Ideal) (ix2 (0 : Fin 1) k) = 0 by pointwise [k0_pay1], zero_add]

/-- The weighted mean of the rows at a column. -/
def meanVal (k : Fin 512) : EReal :=
  Ideal.div (∑ n, rowW x i w1 b1 w2 b2 n * x (ix2 n k)) (max (∑ n, rowW x i w1 b1 w2 b2 n) (Ideal.ofBits .f32 0x0DA24260#32))

/-- The mean the kernel divides out is `meanVal`. -/
theorem mean_apply (k : Fin 512) : mean (F := Ideal) x i w1 b1 w2 b2 (ix2 (0 : Fin 1) k) = meanVal x i w1 b1 w2 b2 k := by
  unfold meanVal
  rw [← num7_eq, ← den7_eq]
  rfl

/-- The result at a row and column: the row's own entry plus what is read out of the mean if any weight is there. -/
theorem result_apply (r1 : Vec Ideal S256x512 .f32) (rb1 : Vec Ideal S1x256 .f32) (r2 : Vec Ideal S512x256 .f32)
    (rb2 : Vec Ideal S1x512 .f32) (n : Fin 16384) (h : Fin 512) :
    result (F := Ideal) x i w1 b1 w2 b2 r1 rb1 r2 rb2 (ix2 n h)
      = x (ix2 n h) + if 0 < ∑ n, rowW x i w1 b1 w2 b2 n
          then Model.readout (fun a k => r1 (ix2 a k)) (fun a => rb1 (ix2 (0 : Fin 1) a)) (fun k a => r2 (ix2 k a))
            (fun k => rb2 (ix2 (0 : Fin 1) k)) (meanVal x i w1 b1 w2 b2) h else 0 := by
  show x (ix2 n h) + retRow (F := Ideal) x i w1 b1 w2 b2 r1 rb1 r2 rb2 (ix2 (0 : Fin 1) h) = _
  unfold retRow
  rw [pay41_apply, den7_eq]
  simp only [mean_apply]

end Cert.KernelIdeal.Hand

end
-- ==== Proof.Casts.lean ====
/- A vector of any length cast to one row or one column and back, read at an index. -/
module

public import Idealize.ShloMosaic.Lib.Pointwise
public import Idealize.ShloMosaic.Lib.Pipeline.Value

@[expose] public section

namespace Cert.Casts

open Idealize.ShloMosaic

variable {n : ℕ} {α : Type}

/-- A vector cast to one row. -/
theorem row (v : (⟨1, ![n]⟩ : Shape).Idx → α) (h : (⟨1, ![n]⟩ : Shape).ShapeCasts ⟨2, ![1, n]⟩) (k : Fin n) :
    shapeCast ⟨2, ![1, n]⟩ v h (ix2 (0 : Fin 1) k) = v (ix1 k) := by
  refine shapeCast_apply v h _ _ ?_
  rw [Shape.rowMajor_val_one, Shape.rowMajor_val_two]
  show k.val = 0 * n + k.val
  omega

/-- A vector cast to one column. -/
theorem col (v : (⟨1, ![n]⟩ : Shape).Idx → α) (h : (⟨1, ![n]⟩ : Shape).ShapeCasts ⟨2, ![n, 1]⟩) (k : Fin n) :
    shapeCast ⟨2, ![n, 1]⟩ v h (ix2 k (0 : Fin 1)) = v (ix1 k) := by
  refine shapeCast_apply v h _ _ ?_
  rw [Shape.rowMajor_val_one, Shape.rowMajor_val_two]
  show k.val = k.val * 1 + 0
  omega

/-- One column cast to a vector. -/
theorem uncol (v : (⟨2, ![n, 1]⟩ : Shape).Idx → α) (h : (⟨2, ![n, 1]⟩ : Shape).ShapeCasts ⟨1, ![n]⟩) (k : Fin n) :
    shapeCast ⟨1, ![n]⟩ v h (ix1 k) = v (ix2 k (0 : Fin 1)) := by
  refine shapeCast_apply v h _ _ ?_
  rw [Shape.rowMajor_val_one, Shape.rowMajor_val_two]
  show k.val * 1 + 0 = k.val
  omega

end Cert.Casts
-- ==== Proof.KernelIdealBlocks.lean ====
/- What the kernel's windows hold: the launch arguments. -/
module

public import proofs.«01_k».proof.Proof.KernelIdealSums
public import proofs.«01_k».proof.Proof.KernelIdealFrame
public import proofs.«01_k».proof.Proof.Casts

@[expose] public section

set_option maxRecDepth 16384

noncomputable section

namespace Cert.KernelIdeal.Hand

open Idealize.ShloMosaic Idealize.ShloMosaic.TcCoe
open Cert.KernelIdeal.Gen
open scoped BigOperators

variable (m : (ℓ : Loc nD τ sig) → Buf (Elt Ideal) ℓ) (c : Dev nD)

/-- Window 0 holds its whole array. -/
theorem blk0_eq : blk0 m c = V m c main_call0_v1 := by
  funext y
  refine congrArg (V m c main_call0_v1) (funext fun b => Fin.ext ?_)
  exact Pipeline.Window.rect_emb_val_of_index_zero _ _ _ rfl _

/-- Window 1 holds its whole array. -/
theorem blk1_eq : blk1 m c = V m c main_call0_v0 := by
  funext y
  refine congrArg (V m c main_call0_v0) (funext fun b => Fin.ext ?_)
  exact Pipeline.Window.rect_emb_val_of_index_zero _ _ _ rfl _

/-- Window 2 holds its whole array. -/
theorem blk2_eq : blk2 m c = V m c main_call0_v2 := by
  funext y
  refine congrArg (V m c main_call0_v2) (funext fun b => Fin.ext ?_)
  exact Pipeline.Window.rect_emb_val_of_index_zero _ _ _ rfl _

/-- Window 3 holds its whole array. -/
theorem blk3_eq : blk3 m c = V m c main_arg4 := by
  funext y
  refine congrArg (V m c main_arg4) (funext fun b => Fin.ext ?_)
  exact Pipeline.Window.rect_emb_val_of_index_zero _ _ _ rfl _

/-- Window 4 holds its whole array. -/
theorem blk4_eq : blk4 m c = V m c main_call0_v3 := by
  funext y
  refine congrArg (V m c main_call0_v3) (funext fun b => Fin.ext ?_)
  exact Pipeline.Window.rect_emb_val_of_index_zero _ _ _ rfl _

/-- Window 5 holds its whole array. -/
theorem blk5_eq : blk5 m c = V m c main_arg6 := by
  funext y
  refine congrArg (V m c main_arg6) (funext fun b => Fin.ext ?_)
  exact Pipeline.Window.rect_emb_val_of_index_zero _ _ _ rfl _

/-- Window 6 holds its whole array. -/
theorem blk6_eq : blk6 m c = V m c main_call0_v4 := by
  funext y
  refine congrArg (V m c main_call0_v4) (funext fun b => Fin.ext ?_)
  exact Pipeline.Window.rect_emb_val_of_index_zero _ _ _ rfl _

/-- Window 7 holds its whole array. -/
theorem blk7_eq : blk7 m c = V m c main_arg8 := by
  funext y
  refine congrArg (V m c main_arg8) (funext fun b => Fin.ext ?_)
  exact Pipeline.Window.rect_emb_val_of_index_zero _ _ _ rfl _

/-- Window 8 holds its whole array. -/
theorem blk8_eq : blk8 m c = V m c main_call0_v5 := by
  funext y
  refine congrArg (V m c main_call0_v5) (funext fun b => Fin.ext ?_)
  exact Pipeline.Window.rect_emb_val_of_index_zero _ _ _ rfl _

/-- Window 0's array holds argument 1. -/
theorem blk0_apply (k : Fin 16384) : blk0 m c (ix2 (0 : Fin 1) k) = m ((c : Thread nD τ).loc main_arg1) (ix1 k) := by
  have h : V m c main_call0_v1 = shapeCast S1x16384 (m ((c : Thread nD τ).loc main_arg1)) shapeCasts_S16384_S1x16384 := by
    unfold V hostOps0
    after_results
    rfl
  rw [blk0_eq, h]
  exact Casts.row _ _ k

/-- Window 1's array holds argument 2. -/
theorem blk1_apply (a : Fin 256) (k : Fin 512) : blk1 m c (ix2 a k) = m ((c : Thread nD τ).loc main_arg2) (ix2 a k) := by
  have h : V m c main_call0_v0 = truncf (F := Ideal) .bf16 (m ((c : Thread nD τ).loc main_arg2)) bitsLt_bf16_f32 := by
    unfold V hostOps0
    after_results
    rfl
  rw [blk1_eq, h]
  exact rfl

/-- Window 2's array holds argument 3. -/
theorem blk2_apply (k : Fin 256) : blk2 m c (ix2 k (0 : Fin 1)) = m ((c : Thread nD τ).loc main_arg3) (ix1 k) := by
  have h : V m c main_call0_v2 = shapeCast S256x1 (m ((c : Thread nD τ).loc main_arg3)) shapeCasts_S256_S256x1 := by
    unfold V hostOps0
    after_results
    rfl
  rw [blk2_eq, h]
  exact Casts.col _ _ k

/-- Window 4's array holds argument 5. -/
theorem blk4_apply (k : Fin 1) : blk4 m c (ix2 (0 : Fin 1) k) = m ((c : Thread nD τ).loc main_arg5) (ix1 k) := by
  have h : V m c main_call0_v3 = shapeCast S1x1 (m ((c : Thread nD τ).loc main_arg5)) shapeCasts_S1_S1x1 := by
    unfold V hostOps0
    after_results
    rfl
  rw [blk4_eq, h]
  exact Casts.row _ _ k

/-- Window 6's array holds argument 7. -/
theorem blk6_apply (k : Fin 256) : blk6 m c (ix2 (0 : Fin 1) k) = m ((c : Thread nD τ).loc main_arg7) (ix1 k) := by
  have h : V m c main_call0_v4 = shapeCast S1x256 (m ((c : Thread nD τ).loc main_arg7)) shapeCasts_S256_S1x256 := by
    unfold V hostOps0
    after_results
    rfl
  rw [blk6_eq, h]
  exact Casts.row _ _ k

/-- Window 8's array holds argument 9. -/
theorem blk8_apply (k : Fin 512) : blk8 m c (ix2 (0 : Fin 1) k) = m ((c : Thread nD τ).loc main_arg9) (ix1 k) := by
  have h : V m c main_call0_v5 = shapeCast S1x512 (m ((c : Thread nD τ).loc main_arg9)) shapeCasts_S512_S1x512 := by
    unfold V hostOps0
    after_results
    rfl
  rw [blk8_eq, h]
  exact Casts.row _ _ k

/-- The launch arguments. -/
def args : Model.Args where
  x n h := m ((c : Thread nD τ).loc main_arg0) (ix2 n h)
  im n := m ((c : Thread nD τ).loc main_arg1) (ix1 n)
  w1 a h := m ((c : Thread nD τ).loc main_arg2) (ix2 a h)
  b1 a := m ((c : Thread nD τ).loc main_arg3) (ix1 a)
  w2 a := m ((c : Thread nD τ).loc main_arg4) (ix2 (0 : Fin 1) a)
  b2 := m ((c : Thread nD τ).loc main_arg5) (ix1 (0 : Fin 1))
  r1 a k := m ((c : Thread nD τ).loc main_arg6) (ix2 a k)
  rb1 a := m ((c : Thread nD τ).loc main_arg7) (ix1 a)
  r2 k a := m ((c : Thread nD τ).loc main_arg8) (ix2 k a)
  rb2 k := m ((c : Thread nD τ).loc main_arg9) (ix1 k)

/-- The result at a row and column, of the launch arguments. -/
theorem resArr_apply (n : Fin 16384) (h : Fin 512) : resArr m c (ix2 n h) = (args m c).out n h := by
  have hw : rowW (V m c main_arg0) (blk0 m c) (blk1 m c) (blk2 m c) (blk3 m c) (blk4 m c) = (args m c).wt := by
    funext n
    unfold rowW Model.Args.wt Model.Args.z
    simp only [blk0_apply, blk1_apply, blk2_apply, blk4_apply]
    rw [blk3_eq, V_main_arg4, V_main_arg0]
    rfl
  have hm : meanVal (V m c main_arg0) (blk0 m c) (blk1 m c) (blk2 m c) (blk3 m c) (blk4 m c) = (args m c).mean := by
    funext k
    unfold meanVal Model.Args.mean
    rw [hw, V_main_arg0]
    rfl
  unfold resArr
  rw [result_apply, hw, hm]
  simp only [blk6_apply, blk8_apply]
  rw [blk5_eq, blk7_eq, V_main_arg6, V_main_arg8, V_main_arg0]
  rfl

end Cert.KernelIdeal.Hand

end
-- ==== Proof.Slots.lean ====
/- Numbering the events. `on i` says that row `i` is an event; the events, taken in the order of their rows,
   are given the slots `0, 1, 2, …`. A sum over the slots is then a sum over the rows. -/
module

public import Mathlib.Data.Nat.Count
public import Mathlib.Data.EReal.Operations
public import Mathlib.Algebra.BigOperators.Group.Finset.Basic

@[expose] public section

noncomputable section

namespace Cert.Slots

open scoped Classical BigOperators

variable {n : ℕ}

/-- Row number `k` exists and is an event. -/
def flag (on : Fin n → Prop) (k : ℕ) : Prop := ∃ h : k < n, on ⟨k, h⟩

/-- The slot of row `i`: the number of events in earlier rows. -/
def slot (on : Fin n → Prop) (i : Fin n) : ℕ := Nat.count (flag on) i.val

/-- The number of events. -/
def events (on : Fin n → Prop) : ℕ := Nat.count (flag on) n

/-- A row is flagged by its number exactly when it is an event. -/
theorem flag_val (on : Fin n → Prop) (i : Fin n) : flag on i.val ↔ on i := ⟨fun ⟨_, h⟩ => h, fun h => ⟨i.isLt, h⟩⟩

/-- There are at most as many events as rows. -/
theorem events_le (on : Fin n → Prop) : events on ≤ n := Nat.count_le _

/-- An event's slot is below the number of events. -/
theorem slot_lt {on : Fin n → Prop} {i : Fin n} (h : on i) : slot on i < events on :=
  Nat.count_strict_mono ((flag_val on i).2 h) i.isLt

/-- Counting up to and including an event's own row gives its slot and one more. -/
theorem count_succ_of_on {on : Fin n → Prop} {i : Fin n} (h : on i) :
    Nat.count (flag on) (i.val + 1) = slot on i + 1 := by
  rw [Nat.count_succ, if_pos ((flag_val on i).2 h)]; rfl

/-- Two events in one slot are one event. -/
theorem slot_inj {on : Fin n → Prop} {i j : Fin n} (hi : on i) (hj : on j) (h : slot on i = slot on j) : i = j :=
  Fin.ext (Nat.count_injective ((flag_val on i).2 hi) ((flag_val on j).2 hj) h)

/-- A number below a count of flagged numbers is the count before one of them. -/
theorem exists_of_lt_count (q : ℕ → Prop) (p m : ℕ) (h : p < Nat.count q m) : ∃ k, k < m ∧ q k ∧ Nat.count q k = p := by
  induction m with
  | zero => exact absurd h (by simp)
  | succ m ih =>
    by_cases hp : p < Nat.count q m
    · obtain ⟨k, hk, hq, e⟩ := ih hp
      exact ⟨k, hk.trans (Nat.lt_succ_self m), hq, e⟩
    · rw [Nat.count_succ] at h
      by_cases hq : q m
      · rw [if_pos hq] at h
        exact ⟨m, Nat.lt_succ_self m, hq, by omega⟩
      · rw [if_neg hq] at h
        omega

/-- Every slot below the number of events is some event's. -/
theorem slot_surj (on : Fin n → Prop) {p : ℕ} (h : p < events on) : ∃ i, on i ∧ slot on i = p := by
  obtain ⟨k, hk, hq, e⟩ := exists_of_lt_count (flag on) p n h
  exact ⟨⟨k, hk⟩, (flag_val on ⟨k, hk⟩).1 hq, e⟩

/-- There is an event exactly when their number is positive. -/
theorem events_pos (on : Fin n → Prop) : 0 < events on ↔ ∃ i, on i :=
  ⟨fun h => (slot_surj on h).imp fun _ h => h.1, fun ⟨_, h⟩ => (Nat.zero_le _).trans_lt (slot_lt h)⟩

/-- A sum over slots whose terms vanish from the number of events on is the sum over the events' rows. -/
theorem sum_slots {M : Type} [AddCommMonoid M] (on : Fin n → Prop) {P : ℕ} (hP : n ≤ P) (g : Fin P → M) (f : Fin n → M)
    (hz : ∀ p : Fin P, events on ≤ p.val → g p = 0)
    (hf : ∀ i, on i → ∀ p : Fin P, p.val = slot on i → g p = f i) :
    ∑ p, g p = ∑ i, if on i then f i else 0 := by
  rw [← Finset.sum_filter]
  have hlt : ∀ i, on i → slot on i < P := fun i h => (slot_lt h).trans_le ((events_le on).trans hP)
  symm
  refine Finset.sum_bij_ne_zero (fun i hi _ => ⟨slot on i, hlt i (Finset.mem_filter.1 hi).2⟩) (fun _ _ _ => Finset.mem_univ _)
    (fun i hi _ j hj _ e => slot_inj (Finset.mem_filter.1 hi).2 (Finset.mem_filter.1 hj).2 (Fin.ext_iff.1 e))
    (fun p _ hp => ?_) (fun i hi _ => (hf i (Finset.mem_filter.1 hi).2 _ rfl).symm)
  by_cases hc : events on ≤ p.val
  · exact absurd (hz p hc) hp
  · obtain ⟨i, hi, e⟩ := slot_surj on (not_le.1 hc)
    exact ⟨i, Finset.mem_filter.2 ⟨Finset.mem_univ _, hi⟩, by rw [← hf i hi p e.symm]; exact hp, Fin.ext e⟩

end Cert.Slots

end
-- ==== Proof.Weights.lean ====
/- The mathematics of the consolidation: a softmax does not depend on the number subtracted inside its
   exponentials, so weights taken against the largest importance and weights taken against 1 give one mean. -/
module

public import proofs.«01_k».proof.Proof.Slots
public import Idealize.ShloMosaic.PureOps.Ideal.Laws
public import Idealize.ShloMosaic.Lib.IdealHost

@[expose] public section

noncomputable section

namespace Cert.Weights

open scoped Classical BigOperators
open Idealize.ShloMosaic Cert.Slots

/-- A finite sum of reals, read as extended reals, is the sum of the terms. -/
theorem coe_sum {ι : Type} (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- A real quotient, the divisor not zero. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The exponential of a real. -/
theorem exp_coe (a : ℝ) : Ideal.exp (a : EReal) = ((Real.exp a : ℝ) : EReal) := rfl

/-- A choice between a real and zero. -/
theorem ite_coe (p : Prop) (a : ℝ) : (if p then (a : EReal) else 0) = ((if p then a else 0 : ℝ) : EReal) := by
  split <;> simp

/-- The largest of a list of extended reals over a nonempty range is one of them and is at least each of them. -/
theorem fold_max {P : ℕ} (hP : 0 < P) (L : Fin P → EReal) :
    (∃ p, Finset.univ.fold max ⊥ L = L p) ∧ ∀ p, L p ≤ Finset.univ.fold max ⊥ L := by
  have e : Finset.univ.fold max ⊥ L = Finset.univ.sup L := rfl
  rw [e]
  haveI : Nonempty (Fin P) := ⟨⟨0, hP⟩⟩
  obtain ⟨p, _, hp⟩ := Finset.exists_mem_eq_sup Finset.univ Finset.univ_nonempty L
  exact ⟨⟨p, hp⟩, fun p => Finset.le_sup (Finset.mem_univ p)⟩

section

variable {n P : ℕ} (on : Fin n → Prop)

/-- The logit of slot `p`: the importance stored there, or the mask where no event is. -/
def logit (mask : EReal) (im : Fin P → EReal) (p : Fin P) : EReal := if p.val < events on then im p else mask

/-- The unnormalised weight of slot `p`, taken against the largest logit. -/
def wt (mask : EReal) (im : Fin P → EReal) (p : Fin P) : EReal :=
  Ideal.exp (logit on mask im p - Finset.univ.fold max ⊥ (logit on mask im)) * if p.val < events on then 1 else 0

/-- The unnormalised weight of row `i`, taken against 1, zero where the row is no event. -/
def rowWt (im : Fin n → EReal) (i : Fin n) : EReal := if on i then Ideal.exp (im i - 1) else 0

/-- Where there is an event, the largest logit is the importance of an event, and no event's is larger. -/
theorem top_logit (hn : n ≤ P) (mask : EReal) (hmask : mask < 0) (r : Fin n → ℝ) (hr : ∀ i, 0 ≤ r i) (im : Fin P → EReal)
    (him : ∀ i, on i → ∀ p : Fin P, p.val = slot on i → im p = (r i : EReal)) (hev : ∃ i, on i) :
    ∃ i, on i ∧ Finset.univ.fold max ⊥ (logit on mask im) = (r i : EReal) ∧ ∀ j, on j → r j ≤ r i := by
  obtain ⟨i₀, h₀⟩ := hev
  have hlt : ∀ i, on i → slot on i < P := fun i h => (slot_lt h).trans_le ((events_le on).trans hn)
  have hL : ∀ i (h : on i), logit on mask im ⟨slot on i, hlt i h⟩ = (r i : EReal) := fun i h => by
    rw [logit, if_pos (slot_lt h), him i h _ rfl]
  obtain ⟨⟨p, hp⟩, hle⟩ := fold_max ((Nat.zero_le _).trans_lt (hlt i₀ h₀)) (logit on mask im)
  have hpe : p.val < events on := by
    by_contra hc
    have h1 : Finset.univ.fold max ⊥ (logit on mask im) = mask := by rw [hp, logit, if_neg hc]
    have h2 := hle ⟨slot on i₀, hlt i₀ h₀⟩
    rw [hL i₀ h₀, h1] at h2
    exact absurd (h2.trans_lt hmask) (not_lt.2 (by exact_mod_cast hr i₀))
  obtain ⟨i, hi, e⟩ := slot_surj on hpe
  have hm : Finset.univ.fold max ⊥ (logit on mask im) = (r i : EReal) := by
    rw [hp, logit, if_pos hpe, him i hi p e.symm]
  refine ⟨i, hi, hm, fun j hj => ?_⟩
  have := hle ⟨slot on j, hlt j hj⟩
  rw [hL j hj, hm] at this
  exact_mod_cast this

/-- The weighted mean over the slots, weights taken against the largest logit, is the weighted mean over the rows,
    weights taken against 1, if a row is an event; both divisors are kept from zero by a small `tiny`. -/
theorem mean_eq (hn : n ≤ P) (mask : EReal) (hmask : mask < 0) (tiny : ℝ) (htiny : tiny ≤ Real.exp (-1))
    (r X : Fin n → ℝ) (hr : ∀ i, 0 ≤ r i) (im mem : Fin P → EReal)
    (him : ∀ i, on i → ∀ p : Fin P, p.val = slot on i → im p = (r i : EReal))
    (hmem : ∀ i, on i → ∀ p : Fin P, p.val = slot on i → mem p = (X i : EReal)) (hev : ∃ i, on i) :
    ∑ p, Ideal.div (wt on mask im p) (max (∑ q, wt on mask im q) (tiny : EReal)) * mem p
      = Ideal.div (∑ i, rowWt on (fun i => (r i : EReal)) i * (X i : EReal))
          (max (∑ i, rowWt on (fun i => (r i : EReal)) i) (tiny : EReal))
    ∧ ∃ y : ℝ, Ideal.div (∑ i, rowWt on (fun i => (r i : EReal)) i * (X i : EReal))
          (max (∑ i, rowWt on (fun i => (r i : EReal)) i) (tiny : EReal)) = (y : EReal) := by
  obtain ⟨i₀, h₀, hm, hle⟩ := top_logit on hn mask hmask r hr im him hev
  -- each slot's weight
  have hw0 : ∀ p : Fin P, events on ≤ p.val → wt on mask im p = 0 := fun p h => by
    rw [wt, if_neg (not_lt.2 h), mul_zero]
  have hw1 : ∀ i, on i → ∀ p : Fin P, p.val = slot on i → wt on mask im p = ((Real.exp (r i - r i₀) : ℝ) : EReal) :=
    fun i h p e => by
      have hp : p.val < events on := e ▸ slot_lt h
      rw [wt, hm, logit, if_pos hp, if_pos hp, him i h p e, mul_one, ← EReal.coe_sub, exp_coe]
  -- the two divisors
  set S : ℝ := ∑ i, if on i then Real.exp (r i - r i₀) else 0 with hS
  have hS1 : 1 ≤ S := by
    have h := Finset.single_le_sum (f := fun i => if on i then Real.exp (r i - r i₀) else 0)
      (fun i _ => by split <;> positivity) (Finset.mem_univ i₀)
    simpa [h₀] using h
  have hden : ∑ q, wt on mask im q = (S : EReal) := by
    rw [sum_slots on hn (wt on mask im) (fun i => ((Real.exp (r i - r i₀) : ℝ) : EReal)) hw0 hw1, hS, coe_sum]
    exact Finset.sum_congr rfl fun i _ => ite_coe _ _
  set D : ℝ := ∑ i, if on i then Real.exp (r i - 1) else 0 with hD
  have hrow : ∀ i, rowWt on (fun i => (r i : EReal)) i = ((if on i then Real.exp (r i - 1) else 0 : ℝ) : EReal) := fun i => by
    rw [rowWt, ← EReal.coe_one, ← EReal.coe_sub, exp_coe, ite_coe]
  have hDS : D = S * Real.exp (r i₀ - 1) := by
    rw [hD, hS, Finset.sum_mul]
    refine Finset.sum_congr rfl fun i _ => ?_
    split
    · rw [← Real.exp_add]; congr 1; ring
    · rw [zero_mul]
  have hD1 : Real.exp (-1) ≤ D := by
    have h1 : Real.exp (-1) ≤ Real.exp (r i₀ - 1) := Real.exp_le_exp.2 (by linarith [hr i₀])
    rw [hDS]
    nlinarith [Real.exp_pos (r i₀ - 1)]
  have hDpos : 0 < D := (Real.exp_pos _).trans_le hD1
  have hDen : ∑ i, rowWt on (fun i => (r i : EReal)) i = (D : EReal) := by
    rw [hD, coe_sum]; exact Finset.sum_congr rfl fun i _ => hrow i
  have he1 : Real.exp (-1) ≤ 1 := Real.exp_le_one_iff.2 (by norm_num)
  rw [hden, hDen, max_eq_left (by exact_mod_cast htiny.trans (he1.trans hS1)),
    max_eq_left (by exact_mod_cast htiny.trans hD1)]
  have hnum : ∑ i, rowWt on (fun i => (r i : EReal)) i * (X i : EReal)
      = ((∑ i, (if on i then Real.exp (r i - 1) else 0) * X i : ℝ) : EReal) := by
    rw [coe_sum]; exact Finset.sum_congr rfl fun i _ => by rw [hrow, EReal.coe_mul]
  rw [hnum, div_coe _ _ hDpos.ne']
  refine ⟨?_, _, rfl⟩
  rw [sum_slots on hn _ (fun i => ((Real.exp (r i - r i₀) / S * X i : ℝ) : EReal))
    (fun p h => by rw [hw0 p h, Ideal.zero_div (by exact_mod_cast (zero_lt_one.trans_le hS1).ne'), zero_mul])
    (fun i h p e => by rw [hw1 i h p e, hmem i h p e, div_coe _ _ (zero_lt_one.trans_le hS1).ne', EReal.coe_mul])]
  rw [Finset.sum_div, coe_sum]
  refine Finset.sum_congr rfl fun i _ => ?_
  rw [ite_coe]
  congr 1
  split
  · have hS0 : S ≠ 0 := (zero_lt_one.trans_le hS1).ne'
    have e : Real.exp (r i - 1) = Real.exp (r i - r i₀) * Real.exp (r i₀ - 1) := by
      rw [← Real.exp_add]; congr 1; ring
    rw [hDS, e]
    field_simp [(Real.exp_pos (r i₀ - 1)).ne']
  · simp

end

end Cert.Weights

end
-- ==== Proof.ReferenceScores.lean ====
/- The reference's scores: which rows it keeps. -/
module

public import proofs.«01_k».proof.Proof.Gen.ReferenceIdeal.Run
public import proofs.«01_k».proof.Proof.Model
public import proofs.«01_k».proof.Proof.Casts
public import proofs.«01_k».proof.Proof.Weights
public import Idealize.ShloMosaic.Lib.Pointwise

@[expose] public section

set_option maxRecDepth 16384

noncomputable section

namespace Cert.ReferenceIdeal.Hand

open Idealize.ShloMosaic Idealize.ShloMosaic.TcCoe
open Cert.ReferenceIdeal Cert.ReferenceIdeal.Value Cert.ReferenceIdeal.Gen
open scoped BigOperators

variable (L : Valuation τ sig (Elt Ideal))

/-- The arguments, read off a valuation of the buffers. -/
def args : Model.Args where
  x n h := L (Proc.devRef .tc main_arg0) (ix2 n h)
  im n := L (Proc.devRef .tc main_arg1) (ix1 n)
  w1 a h := L (Proc.devRef .tc main_arg2) (ix2 a h)
  b1 a := L (Proc.devRef .tc main_arg3) (ix1 a)
  w2 a := L (Proc.devRef .tc main_arg4) (ix2 (0 : Fin 1) a)
  b2 := L (Proc.devRef .tc main_arg5) (ix1 (0 : Fin 1))
  r1 a k := L (Proc.devRef .tc main_arg6) (ix2 a k)
  rb1 a := L (Proc.devRef .tc main_arg7) (ix1 a)
  r2 k a := L (Proc.devRef .tc main_arg8) (ix2 k a)
  rb2 k := L (Proc.devRef .tc main_arg9) (ix1 k)

/-- Row `n` is an event: its score is above zero. -/
def on (n : Fin 16384) : Prop := 0 < (args L).z n

/-- A sigmoid is above one half exactly when its argument is above zero. -/
theorem half_lt_sigmoid (z : EReal) : Ideal.ofBits .f32 0x3F000000#32 < Ideal.div 1 (1 + Ideal.exp (-z)) ↔ 0 < z := by
  have hh : Ideal.ofBits .f32 0x3F000000#32 = (((1 : ℝ) / 2 : ℝ) : EReal) := by
    simp [Ideal.ofBits, Ideal.ieee]
    rw [← EReal.coe_mul, EReal.coe_eq_coe_iff]
    norm_num
  rw [hh]
  induction z with
  | bot =>
    have h1 : (1 : EReal) + ⊤ = ⊤ := EReal.coe_add_top 1
    simp [Ideal.div, h1]
  | top =>
    simp [Ideal.div]
    rw [show (1 : EReal) = ((1 : ℝ) : EReal) from rfl, EReal.coe_lt_coe_iff]
    norm_num
  | coe r =>
    rw [← EReal.coe_neg, Weights.exp_coe]
    have h1 : (0 : ℝ) < 1 + Real.exp (-r) := by positivity
    rw [show (1 : EReal) + ((Real.exp (-r) : ℝ) : EReal) = ((1 + Real.exp (-r) : ℝ) : EReal) by push_cast; rfl,
      show (1 : EReal) = ((1 : ℝ) : EReal) from rfl, Weights.div_coe _ _ h1.ne', EReal.coe_lt_coe_iff,
      show (0 : EReal) = ((0 : ℝ) : EReal) from rfl, EReal.coe_lt_coe_iff, div_lt_div_iff₀ two_pos h1]
    constructor
    · intro h
      have : Real.exp (-r) < 1 := by linarith
      linarith [Real.exp_lt_one_iff.1 this]
    · intro h
      have : Real.exp (-r) < 1 := Real.exp_lt_one_iff.2 (by linarith)
      linarith

open scoped Classical in
/-- The mask's bit at row `n` says whether it is an event. -/
theorem mask_apply (n : Fin 16384) : res_main_v19 L (ix1 n) = BitVec.ofBool (decide (on L n)) := by
  unfold res_main_v19
  show FloatOps.cmpf (F := Ideal) .ogt _ _ = _
  erw [Casts.uncol]
  pointwise
  have hz : (∑ a, max ((∑ h, (args L).x n h * (args L).w1 a h) + (args L).b1 a) 0 * (args L).w2 a) + (args L).b2 = (args L).z n := by
    unfold Model.Args.z Model.score
    refine congrArg (fun s : EReal => s + _) (Finset.sum_congr rfl fun a _ => ?_)
    rw [mul_comm]
    refine congrArg (fun s : EReal => _ * max (s + _) 0) (Finset.sum_congr rfl fun k _ => mul_comm _ _)
  refine congrArg BitVec.ofBool (decide_eq_decide.2 ?_)
  show _ < Ideal.div 1 (1 + Ideal.exp (-((∑ a, max ((∑ h, (args L).x n h * (args L).w1 a h) + (args L).b1 a) 0 * (args L).w2 a) + (args L).b2))) ↔ _
  rw [hz]
  exact half_lt_sigmoid _

end Cert.ReferenceIdeal.Hand

end
-- ==== Proof.Scatter.lean ====
/- Rows set into a table, each at the slot its index word names: what stands at a slot one row names, and at a slot no row names. -/
module

public import Idealize.ShloMosaic.Lib.Routing.OpsSet

@[expose] public section

namespace Cert.Scatter

open Idealize.ShloMosaic Idealize.ShloMosaic.Routing Idealize.ShloMosaic.ValueIdx

variable {P N H : ℕ}

/-- How entries of a vector are set into a longer vector. -/
def vecDims (h : ScatterDims.WF (shape1 P) (shape2 N 1) (shape1 N) [] [0] [0] 1) : ScatterDims (shape1 P) (shape2 N 1) (shape1 N) where
  updateWindowDims := []
  insertedWindowDims := [0]
  scatterDimsToOperandDims := [0]
  indexVectorDim := 1
  wf := h

/-- How rows of a table are set into a taller table. -/
def rowDims (h : ScatterDims.WF (shape2 P H) (shape2 N 1) (shape2 N H) [1] [0] [0] 1) :
    ScatterDims (shape2 P H) (shape2 N 1) (shape2 N H) where
  updateWindowDims := [1]
  insertedWindowDims := [0]
  scatterDimsToOperandDims := [0]
  indexVectorDim := 1
  wf := h

/-- Entry `n` lands at slot `p` exactly when its index word is `p`. -/
theorem vec_lands (h) (idx : IVec (shape2 N 1) 32) (n : Fin N) (p : Fin P) :
    (vecDims (P := P) (N := N) h).resultIdx? (ix1 n) idx = some (ix1 p) ↔ (idx (ix2 n (0 : Fin 1))).toInt = (p.val : Int) := by
  have hw : (vecDims (P := P) (N := N) h).window (ix1 n) 0 = 0 := rfl
  have hs : (vecDims (P := P) (N := N) h).start (ix1 n) idx 0 = (idx (ix2 n (0 : Fin 1))).toInt := by
    refine congrArg (fun t => (idx t).toInt) (funext fun b => ?_)
    match b with
    | ⟨0, _⟩ => rfl
    | ⟨1, _⟩ => rfl
  rw [resultIdx?_ix1, hw, hs]
  simp

/-- Entry `k` of row `n` lands at column `j` of slot `p` exactly when the row's index word is `p` and the columns are the same. -/
theorem row_lands (h) (idx : IVec (shape2 N 1) 32) (n : Fin N) (k : Fin H) (p : Fin P) (j : Fin H) :
    (rowDims (P := P) (N := N) (H := H) h).resultIdx? (ix2 n k) idx = some (ix2 p j)
      ↔ (idx (ix2 n (0 : Fin 1))).toInt = (p.val : Int) ∧ k = j := by
  have hw0 : (rowDims (P := P) (N := N) (H := H) h).window (ix2 n k) 0 = 0 := rfl
  have hw1 : (rowDims (P := P) (N := N) (H := H) h).window (ix2 n k) 1 = k.val := rfl
  have hs0 : (rowDims (P := P) (N := N) (H := H) h).start (ix2 n k) idx 0 = (idx (ix2 n (0 : Fin 1))).toInt := by
    refine congrArg (fun t => (idx t).toInt) (funext fun b => ?_)
    match b with
    | ⟨0, _⟩ => rfl
    | ⟨1, _⟩ => rfl
  have hs1 : (rowDims (P := P) (N := N) (H := H) h).start (ix2 n k) idx 1 = 0 := rfl
  rw [resultIdx?_ix2, hw0, hw1, hs0, hs1, Fin.ext_iff]
  omega

variable {α : Type}

/-- The slot that one entry alone names holds that entry. -/
theorem vec_hit (h) (x0 : (shape1 P).Idx → α) (idx : IVec (shape2 N 1) 32) (upd : (shape1 N).Idx → α) (n : Fin N) (p : Fin P)
    (hn : (idx (ix2 n (0 : Fin 1))).toInt = (p.val : Int)) (hu : ∀ i : Fin N, (idx (ix2 i (0 : Fin 1))).toInt = (p.val : Int) → i = n) :
    Host.scatter (vecDims (P := P) (N := N) h) (fun _ b => b) x0 idx upd (ix1 p) = upd (ix1 n) :=
  scatter_set_hit _ x0 idx upd _ _ (fun k hk => by
    rw [eq_ix1 k] at hk ⊢
    rw [hu _ ((vec_lands h idx _ p).1 hk)]
    rfl) (ix1 n) ((vec_lands h idx n p).2 hn)

/-- The slot that one row alone names holds that row. -/
theorem row_hit (h) (x0 : (shape2 P H).Idx → α) (idx : IVec (shape2 N 1) 32) (upd : (shape2 N H).Idx → α) (n : Fin N) (p : Fin P) (k : Fin H)
    (hn : (idx (ix2 n (0 : Fin 1))).toInt = (p.val : Int)) (hu : ∀ i : Fin N, (idx (ix2 i (0 : Fin 1))).toInt = (p.val : Int) → i = n) :
    Host.scatter (rowDims (P := P) (N := N) (H := H) h) (fun _ b => b) x0 idx upd (ix2 p k) = upd (ix2 n k) :=
  scatter_set_hit _ x0 idx upd _ _ (fun j hj => by
    rw [eq_ix2 j] at hj ⊢
    obtain ⟨a, b⟩ := (row_lands h idx _ _ p k).1 hj
    rw [hu _ a, b]
    rfl) (ix2 n k) ((row_lands h idx n k p k).2 ⟨hn, rfl⟩)

end Cert.Scatter
-- ==== Proof.Words.lean ====
/- The index words of a running count: the number of set bits of a mask, and for each row the slot its bit is sent to. -/
module

public import Idealize.ShloMosaic.Lib.Routing.OpsSet
public import Idealize.ShloMosaic.Lib.Routing.Count
public import Idealize.ShloMosaic.Lib.Routing.OpsOne
public import proofs.«01_k».proof.Proof.Slots

@[expose] public section

noncomputable section

namespace Cert.Words

open Idealize.ShloMosaic Idealize.ShloMosaic.Routing Idealize.ShloMosaic.ValueIdx
open scoped Classical

variable {N M : ℕ} (on : Fin N → Prop) (x : IVec (shape1 N) 1) (hx : ∀ i, x (ix1 i) = BitVec.ofBool (decide (on i)))

include hx

/-- The mask's bits as words: one at an event, zero elsewhere. -/
theorem word (h : 1 < 32) (i : Fin N) : extui 32 x h (ix1 i) = BitVec.ofNat 32 (if Slots.flag on i.val then 1 else 0) := by
  show (x (ix1 i)).zeroExtend 32 = _
  rw [hx]
  by_cases h : on i
  · rw [if_pos ((Slots.flag_val _ i).2 h), decide_eq_true h]; rfl
  · rw [if_neg (fun q => h ((Slots.flag_val _ i).1 q)), decide_eq_false h]; rfl

/-- The sum of the words is the number of events. -/
theorem count (h : 1 < 32) (hr : (shape1 N).ReducesTo [0] shape0) (hu : 0 < shape0.numel) :
    Host.reduce IntOp.addi (extui 32 x h) (constantI shape0 32 0#32) hr hu ix0 = BitVec.ofNat 32 (Slots.events on) := by
  refine (reduce_sum _ (fun k => if Slots.flag on k then 1 else 0) (fun i => word on x hx h i) _ _).trans ?_
  rw [sum_map_ite]
  rfl

/-- The index word of row `i`: its slot if it is an event, and the word `big` if not. -/
theorem index (hN : M + 1 = N) (h : 1 < 32) (init : IVec shape0 32) (hinit : init ix0 = 0#32)
    (hw : (shape1 N).ReduceWindows (![N] : Fin 1 → Nat) ![1] ![M] ![0] (shape1 N)) (hu : 0 < shape0.numel)
    (one big : IVec (shape1 N) 32) (i : Fin N) (hone : one (ix1 i) = 1#32) (b : ℕ) (hb : big (ix1 i) = BitVec.ofNat 32 b) :
    select x (subi (Host.reduceWindow IntOp.addi ![N] ![1] ![M] ![0] (extui 32 x h) init hw hu) one) big (ix1 i)
      = BitVec.ofNat 32 (if on i then Slots.slot on i else b) := by
  show Scalar.select (x (ix1 i)) (IntOp.subi (Host.reduceWindow IntOp.addi ![N] ![1] ![M] ![0] (extui 32 x h) init hw hu (ix1 i)) (one (ix1 i))) (big (ix1 i)) = _
  rw [hx, hone, hb]
  by_cases ho : on i
  · rw [if_pos ho, decide_eq_true ho,
      cumsum1 hN _ (fun k => if Slots.flag on k then 1 else 0) (fun i => word on x hx h i) _ hinit _ _ i, sum_map_ite, Slots.count_succ_of_on ho]
    show BitVec.ofNat 32 (Slots.slot on i + 1) - 1#32 = _
    rw [BitVec.ofNat_add]
    exact BitVec.add_sub_cancel _ _
  · rw [if_neg ho, decide_eq_false ho]; rfl

omit hx in
/-- Wrapping the negative index words, and laying them out as a column, changes none below `2 ^ 31`. -/
theorem wrapped (v zero P : IVec (shape1 N) 32) (i : Fin N) (hz : zero (ix1 i) = 0#32) (k : ℕ) (hk : k < 2 ^ 31) (hv : v (ix1 i) = BitVec.ofNat 32 k)
    (hb : (shape1 N).BroadcastsInDim (shape2 N 1) ![0]) :
    (broadcastInDim (shape2 N 1) ![0] hb (select (cmpi .slt v zero) (addi v P) v) (ix2 i (0 : Fin 1))).toInt = (k : Int) := by
  have e : select (cmpi .slt v zero) (addi v P) v (ix1 i) = v (ix1 i) := by
    show Scalar.select (IntOp.cmpi .slt (v (ix1 i)) (zero (ix1 i))) _ (v (ix1 i)) = _
    rw [hz]
    refine wrap_of_lt _ _ ?_
    rw [hv, BitVec.toNat_ofNat]
    exact (Nat.mod_le _ _).trans_lt hk
  have eb : broadcastInDim (shape2 N 1) ![0] hb (select (cmpi .slt v zero) (addi v P) v) (ix2 i (0 : Fin 1)) = v (ix1 i) := by
    rw [← e]
    refine broadcastInDim_apply _ _ _ _ _ fun a => ?_
    match a with
    | ⟨0, _⟩ =>
      show i.val = if N = 1 then 0 else i.val
      split_ifs with h
      · have := i.isLt
        omega
      · rfl
  rw [eb, hv, StableHlo.Predicate.toInt_ofNat_small _ hk]

end Cert.Words

end
-- ==== Proof.ReferenceSlots.lean ====
/- The reference's index words: how many events there are, and the slot each event is sent to. -/
module

public import proofs.«01_k».proof.Proof.ReferenceScores
public import proofs.«01_k».proof.Proof.Slots
public import proofs.«01_k».proof.Proof.Scatter
public import proofs.«01_k».proof.Proof.Words
public import Idealize.ShloMosaic.Lib.Pointwise.IndexBridge

@[expose] public section

set_option maxRecDepth 16384

noncomputable section

namespace Cert.ReferenceIdeal.Hand

open Idealize.ShloMosaic Idealize.ShloMosaic.TcCoe
open Cert.ReferenceIdeal Cert.ReferenceIdeal.Value Cert.ReferenceIdeal.Gen
open scoped BigOperators Classical

variable (L : Valuation τ sig (Elt Ideal))

/-- The mask's bits, at the other spelling of an index. -/
theorem mask_bit (i : Fin 16384) : res_main_v19 L (ValueIdx.ix1 i) = BitVec.ofBool (decide (on L i)) := by
  rw [← ix1_eq_valueIdx]
  exact mask_apply L i

/-- The count is the number of events. -/
theorem count_apply : res_main_v42 L ValueIdx.ix0 = BitVec.ofNat 32 (Slots.events (on L)) := by
  unfold res_main_v42
  exact Words.count (on L) (res_main_v19 L) (mask_bit L) _ _ _

/-- The index word of row `i`: its slot if it is an event, and one past the last slot if not. -/
theorem index_apply (i : Fin 16384) :
    res_main_v24 L (ValueIdx.ix1 i) = BitVec.ofNat 32 (if on L i then Slots.slot (on L) i else 65536) := by
  unfold res_main_v24
  exact Words.index (on L) (res_main_v19 L) (mask_bit L) rfl _ _ rfl _ _ _ _ i rfl 65536 rfl

/-- The rows' index words, laid out as a column. -/
def column : IVec S16384x1 32 :=
  broadcastInDim S16384x1 ![0] bcast_S16384_S16384x1_0 (select (cmpi .slt (res_main_v24 L) (broadcastInDim S16384 ![] bcast_S_S16384 (constantI S_ 32 0#32))) (addi (res_main_v24 L) (broadcastInDim S16384 ![] bcast_S_S16384 (constantI S_ 32 65536#32))) (res_main_v24 L))

/-- Wrapping the negative index words changes none. -/
theorem column_apply (i : Fin 16384) :
    (column L (ValueIdx.ix2 i (0 : Fin 1))).toInt = ((if on L i then Slots.slot (on L) i else 65536 : ℕ) : Int) := by
  have hlt : (if on L i then Slots.slot (on L) i else 65536 : ℕ) < 2 ^ 31 := by
    split_ifs with h
    · exact ((Slots.slot_lt h).trans_le (Slots.events_le _)).trans (by norm_num)
    · norm_num
  unfold column
  exact Words.wrapped (res_main_v24 L) _ _ i rfl _ hlt (index_apply L i) _

/-- Only the event in slot `p` names slot `p`. -/
theorem column_inj {i : Fin 16384} (h : on L i) {p : Fin 65536} (hp : p.val = Slots.slot (on L) i) (j : Fin 16384)
    (hj : (column L (ValueIdx.ix2 j (0 : Fin 1))).toInt = (p.val : Int)) : j = i := by
  rw [column_apply] at hj
  split_ifs at hj with ho
  · exact Slots.slot_inj ho h (by omega)
  · omega

/-- The slot of an event holds the event's entry of any vector set by these index words. -/
theorem vec_at (x0 : S65536.Idx → EReal) (upd : S16384.Idx → EReal) {i : Fin 16384} (h : on L i) {p : Fin 65536}
    (hp : p.val = Slots.slot (on L) i) :
    Host.scatter scatter_S65536_S16384x1_S16384_n_0_0_1 (fun _ b => b) x0 (column L) upd (ix1 p) = upd (ix1 i) := by
  rw [ix1_eq_valueIdx, ix1_eq_valueIdx]
  exact Scatter.vec_hit (P := 65536) (N := 16384) _ x0 (column L) upd i p (by rw [column_apply, if_pos h, hp]) (column_inj L h hp)

/-- The slot of an event holds the event's row of any table set by these index words. -/
theorem row_at (x0 : S65536x512.Idx → EReal) (upd : S16384x512.Idx → EReal) {i : Fin 16384} (h : on L i) {p : Fin 65536}
    (hp : p.val = Slots.slot (on L) i) (k : Fin 512) :
    Host.scatter scatter_S65536x512_S16384x1_S16384x512_1_0_0_1 (fun _ b => b) x0 (column L) upd (ix2 p k) = upd (ix2 i k) := by
  rw [ix2_eq_valueIdx, ix2_eq_valueIdx]
  exact Scatter.row_hit (P := 65536) (N := 16384) (H := 512) _ x0 (column L) upd i p k (by rw [column_apply, if_pos h, hp]) (column_inj L h hp)

end Cert.ReferenceIdeal.Hand

end
-- ==== Proof.Share.lean ====
/- A softmax over the filled slots of a table, and the table's rows added up by it, read at an index at any size. -/
module

public import proofs.«01_k».proof.Proof.Weights
public import Idealize.ShloMosaic.Lib.Pointwise

@[expose] public section

noncomputable section

namespace Cert.Share

open Idealize.ShloMosaic
open scoped BigOperators

variable {P H : ℕ}

/-- The unnormalised weight of a slot. -/
theorem weight (lg : FVec Ideal (⟨1, ![P]⟩ : Shape) .f32) (fill : IVec (⟨1, ![P]⟩ : Shape) 1) (hb : (⟨0, ![]⟩ : Shape).BroadcastsInDim ⟨1, ![P]⟩ ![])
    (hr : (⟨1, ![P]⟩ : Shape).ReducesTo [0] ⟨0, ![]⟩) (hu : 0 < (⟨0, ![]⟩ : Shape).numel) (p : Fin P) :
    mulf (Host.exp (subf lg (broadcastInDim ⟨1, ![P]⟩ ![] hb (Host.reduce FloatOps.maximumf lg (constant ⟨0, ![]⟩ .f32 0xFF800000#32) hr hu))))
        (uitofp .f32 fill) (ix1 p)
      = Ideal.exp (lg (ix1 p) - Finset.univ.fold max ⊥ fun p => lg (ix1 p)) * ((((fill (ix1 p)).toNat : ℕ) : ℝ) : EReal) := by
  pointwise
  rw [show Ideal.ofBits .f32 0xFF800000#32 = ⊥ by simp [Ideal.ofBits, Ideal.ieee]]
  rfl

/-- A vector laid out as a column. -/
theorem column {α : Type} (v : (⟨1, ![P]⟩ : Shape).Idx → α) (hb1 : (⟨1, ![P]⟩ : Shape).BroadcastsInDim ⟨2, ![P, 1]⟩ ![0]) :
    broadcastInDim ⟨2, ![P, 1]⟩ ![0] hb1 v = fun i => v (ix1 (i 0)) := by
  funext i
  have hi : (i 0).val < P := (i 0).isLt
  refine broadcastInDim_apply _ _ _ _ _ fun a => ?_
  match a with
  | ⟨0, _⟩ =>
    show (i 0).val = if P = 1 then 0 else (i 0).val
    split_ifs with h
    · omega
    · rfl

/-- A vector laid out as a column and repeated along the rows. -/
theorem repeated {α : Type} (v : (⟨1, ![P]⟩ : Shape).Idx → α) (hb1 : (⟨1, ![P]⟩ : Shape).BroadcastsInDim ⟨2, ![P, 1]⟩ ![0])
    (hb2 : (⟨2, ![P, 1]⟩ : Shape).BroadcastsInDim ⟨2, ![P, H]⟩ ![0, 1]) :
    broadcastInDim ⟨2, ![P, H]⟩ ![0, 1] hb2 (broadcastInDim ⟨2, ![P, 1]⟩ ![0] hb1 v) = fun i => v (ix1 (i 0)) := by
  rw [column]
  funext i
  have hi : (i 0).val < P := (i 0).isLt
  refine broadcastInDim_apply _ _ _ i (ix2 (i 0) (0 : Fin 1)) fun a => ?_
  match a with
  | ⟨0, _⟩ =>
    show (i 0).val = if P = 1 then 0 else (i 0).val
    split_ifs with h
    · omega
    · rfl
  | ⟨1, _⟩ => rfl

/-- The rows of a table, added up by each slot's share of the total weight. -/
theorem shared (e : FVec Ideal (⟨1, ![P]⟩ : Shape) .f32) (mem : FVec Ideal (⟨2, ![P, H]⟩ : Shape) .f32) (t : BitVec 32)
    (hb0 : (⟨0, ![]⟩ : Shape).BroadcastsInDim ⟨1, ![P]⟩ ![]) (hb1 : (⟨1, ![P]⟩ : Shape).BroadcastsInDim ⟨2, ![P, 1]⟩ ![0])
    (hb2 : (⟨2, ![P, 1]⟩ : Shape).BroadcastsInDim ⟨2, ![P, H]⟩ ![0, 1]) (hr : (⟨1, ![P]⟩ : Shape).ReducesTo [0] ⟨0, ![]⟩)
    (hr2 : (⟨2, ![P, H]⟩ : Shape).ReducesTo [0] ⟨1, ![H]⟩) (hu : 0 < (⟨0, ![]⟩ : Shape).numel) (k : Fin H) :
    Host.reduceAdd (mulf (broadcastInDim ⟨2, ![P, H]⟩ ![0, 1] hb2 (broadcastInDim ⟨2, ![P, 1]⟩ ![0] hb1 (Host.divf e (broadcastInDim ⟨1, ![P]⟩ ![] hb0
        (maximumf (Host.reduceAdd e (constant ⟨0, ![]⟩ .f32 0x00000000#32) hr hu) (constant ⟨0, ![]⟩ .f32 t)))))) mem)
        (constant ⟨0, ![]⟩ .f32 0x00000000#32) hr2 hu (ix1 k)
      = ∑ p, Ideal.div (e (ix1 p)) (max (∑ q, e (ix1 q)) (Ideal.ofBits .f32 t)) * mem (ix2 p k) := by
  rw [repeated]
  pointwise

/-- A column's entry, less the largest of its own row of one, exponentiated. -/
theorem expOne {N : ℕ} (s : FVec Ideal (⟨2, ![N, 1]⟩ : Shape) .f32) (hb0 : (⟨0, ![]⟩ : Shape).BroadcastsInDim ⟨1, ![N]⟩ ![])
    (hb1 : (⟨1, ![N]⟩ : Shape).BroadcastsInDim ⟨2, ![N, 1]⟩ ![0]) (hr : (⟨2, ![N, 1]⟩ : Shape).ReducesTo [1] ⟨1, ![N]⟩)
    (hu : 0 < (⟨0, ![]⟩ : Shape).numel) (n : Fin N) (y : ℝ) (hy : s (ix2 n (0 : Fin 1)) = (y : EReal)) :
    Host.exp (subf s (broadcastInDim ⟨2, ![N, 1]⟩ ![0] hb1 (maximumf (broadcastInDim ⟨1, ![N]⟩ ![] hb0 (constant ⟨0, ![]⟩ .f32 0xFF800000#32))
        (Host.reduce FloatOps.maximumf s (constant ⟨0, ![]⟩ .f32 0xFF800000#32) hr hu)))) (ix2 n (0 : Fin 1)) = 1 := by
  rw [column]
  pointwise
  rw [show Ideal.ofBits .f32 0xFF800000#32 = ⊥ by simp [Ideal.ofBits, Ideal.ieee]]
  simp [hy]
  rw [show (0 : EReal) = ((0 : ℝ) : EReal) from rfl, Weights.exp_coe, Real.exp_zero]
  rfl

/-- A softmax over one finite entry is one. -/
theorem softmaxOne {N : ℕ} (e : FVec Ideal (⟨2, ![N, 1]⟩ : Shape) .f32)
    (hb1 : (⟨1, ![N]⟩ : Shape).BroadcastsInDim ⟨2, ![N, 1]⟩ ![0]) (hr : (⟨2, ![N, 1]⟩ : Shape).ReducesTo [1] ⟨1, ![N]⟩)
    (hu : 0 < (⟨0, ![]⟩ : Shape).numel) (n : Fin N) (he : e (ix2 n (0 : Fin 1)) = 1) :
    Host.divf e (broadcastInDim ⟨2, ![N, 1]⟩ ![0] hb1 (Host.reduceAdd e (constant ⟨0, ![]⟩ .f32 0x00000000#32) hr hu)) (ix2 n (0 : Fin 1)) = 1 := by
  rw [column]
  pointwise
  simp [he]
  rw [show (1 : EReal) = ((1 : ℝ) : EReal) from rfl, Weights.div_coe _ _ one_ne_zero, div_one]

end Cert.Share

end
-- ==== Proof.ReferenceMemory.lean ====
/- The reference's memory row: the weighted mean over the slots. -/
module

public import proofs.«01_k».proof.Proof.ReferenceSlots
public import proofs.«01_k».proof.Proof.Share

@[expose] public section

set_option maxRecDepth 16384

noncomputable section

namespace Cert.ReferenceIdeal.Hand

open Idealize.ShloMosaic Idealize.ShloMosaic.TcCoe
open Cert.ReferenceIdeal Cert.ReferenceIdeal.Value Cert.ReferenceIdeal.Gen
open scoped BigOperators

variable (L : Valuation τ sig (Elt Ideal))

/-- The importance standing in each slot. -/
def imS (p : Fin 65536) : EReal :=
  Host.scatter scatter_S65536_S16384x1_S16384_n_0_0_1 (fun _ b => b) (broadcastInDim S65536 ![] bcast_S_S65536 (constant (F := Ideal) S_ .f32 0x00000000#32))
    (column L) (L (Proc.devRef .tc main_arg1)) (ix1 p)

/-- The row standing in each slot. -/
def memS (p : Fin 65536) (k : Fin 512) : EReal :=
  Host.scatter scatter_S65536x512_S16384x1_S16384x512_1_0_0_1 (fun _ b => b)
    (broadcastInDim S65536x512 ![] bcast_S_S65536x512 (constant (F := Ideal) S_ .f32 0x00000000#32)) (column L) (L (Proc.devRef .tc main_arg0)) (ix2 p k)

/-- The stand-in for the importance of an empty slot. -/
def lowest : EReal := Ideal.ofBits .f32 0xF149F2CA#32

/-- Whether slot `p` is filled. -/
theorem filled_apply (p : Fin 65536) : res_main_v45 L (ix1 p) = BitVec.ofBool (decide (p.val < Slots.events (on L))) := by
  have he : Slots.events (on L) < 2 ^ 31 := (Slots.events_le _).trans_lt (by norm_num)
  have hp : p.val < 2 ^ 31 := p.isLt.trans (by norm_num)
  have hc : (broadcastInDim S65536 ![] bcast_S_S65536 (res_main_v42 L)) (ix1 p) = BitVec.ofNat 32 (Slots.events (on L)) := by
    rw [← count_apply L]
    exact congrArg (res_main_v42 L) (funext fun a => a.elim0)
  unfold res_main_v45
  show BitVec.ofBool ((BitVec.ofNat 32 p.val).slt ((broadcastInDim S65536 ![] bcast_S_S65536 (res_main_v42 L)) (ix1 p))) = _
  rw [hc]
  refine congrArg BitVec.ofBool ?_
  rw [BitVec.slt, StableHlo.Predicate.toInt_ofNat_small _ he, StableHlo.Predicate.toInt_ofNat_small _ hp]
  exact decide_eq_decide.2 Int.ofNat_lt

/-- The logit of slot `p`. -/
theorem logit_apply (p : Fin 65536) : res_main_v46 L (ix1 p) = Weights.logit (on L) lowest (imS L) p := by
  unfold res_main_v46 Weights.logit
  show Scalar.select (res_main_v45 L (ix1 p)) (imS L p) lowest = _
  rw [filled_apply]
  by_cases h : p.val < Slots.events (on L)
  · rw [if_pos h, decide_eq_true h]; rfl
  · rw [if_neg h, decide_eq_false h]; rfl

/-- The weight of slot `p`. -/
theorem wt_apply (p : Fin 65536) : res_main_v52 L (ix1 p) = Weights.wt (on L) lowest (imS L) p := by
  unfold res_main_v52
  refine (Share.weight (P := 65536) (res_main_v46 L) (res_main_v45 L) _ _ _ p).trans ?_
  have hl : (fun p => res_main_v46 L (ix1 p)) = Weights.logit (on L) lowest (imS L) := funext fun p => logit_apply L p
  have hf : ((((res_main_v45 L (ix1 p)).toNat : ℕ) : ℝ) : EReal) = if p.val < Slots.events (on L) then 1 else 0 := by
    rw [filled_apply]
    by_cases h : p.val < Slots.events (on L)
    · rw [if_pos h, decide_eq_true h]
      simp
    · rw [if_neg h, decide_eq_false h]
      simp
  unfold Weights.wt
  rw [hl, hf, logit_apply]

/-- The memory row: the slots' rows, each by its weight's share of the total. -/
theorem memory_apply (k : Fin 512) : res_main_v60 L (ix1 k)
    = ∑ p, Ideal.div (Weights.wt (on L) lowest (imS L) p) (max (∑ q, Weights.wt (on L) lowest (imS L) q) (Ideal.ofBits .f32 0x0DA24260#32))
        * memS L p k := by
  unfold res_main_v60
  refine (Share.shared (P := 65536) (H := 512) (res_main_v52 L) _ _ _ _ _ _ _ _ k).trans ?_
  simp only [wt_apply]
  rfl

end Cert.ReferenceIdeal.Hand

end
-- ==== Proof.ReferenceOutput.lean ====
/- The reference's result at a row and column. -/
module

public import proofs.«01_k».proof.Proof.ReferenceMemory

@[expose] public section

set_option maxRecDepth 16384

noncomputable section

namespace Cert.ReferenceIdeal.Hand

open Idealize.ShloMosaic Idealize.ShloMosaic.TcCoe
open Cert.ReferenceIdeal Cert.ReferenceIdeal.Value Cert.ReferenceIdeal.Gen
open scoped BigOperators

variable (L : Valuation τ sig (Elt Ideal))

/-- The attention each row pays to the one memory row, as printed: a softmax over one entry. -/
def attn : FVec Ideal S16384x1 .f32 :=
  Host.divf (res_main_v68 L) (broadcastInDim S16384x1 ![0] bcast_S16384_S16384x1_0 (Host.reduceAdd (res_main_v68 L) (constant S_ .f32 0x00000000#32) reducesTo_S16384x1_S16384_d1 h_S_))

/-- What is read out of the memory, as printed. -/
def ret : FVec Ideal S16384x512 .f32 :=
  Host.divf (broadcastInDim S16384x512 ![] bcast_S_S16384x512 (constant S_ .f32 0x3F800000#32)) (addf (broadcastInDim S16384x512 ![] bcast_S_S16384x512 (constant S_ .f32 0x3F800000#32)) (Host.exp (Host.negf (addf (Host.dotGeneral (φ₂ := .f32) dot_S16384x256_S256x512_S16384x512_1_0_0_1_n_n none (maximumf (addf (Host.dotGeneral (φ₂ := .f32) dot_S16384x512_S512x256_S16384x256_1_0_0_1_n_n none (mulf (broadcastInDim S16384x512 ![0, 1] bcast_S16384x1_S16384x512_0_1 (attn L)) (broadcastInDim S16384x512 ![0, 1] bcast_S1x512_S16384x512_0_1 (broadcastInDim S1x512 ![1] bcast_S512_S1x512_1 (res_main_v60 L)))) (transpose S512x256 [1, 0] (L (Proc.devRef .tc main_arg6)) transposes_S256x512_S512x256_1_0)) (broadcastInDim S16384x256 ![0, 1] bcast_S1x256_S16384x256_0_1 (broadcastInDim S1x256 ![1] bcast_S256_S1x256_1 (L (Proc.devRef .tc main_arg7))))) (broadcastInDim S16384x256 ![] bcast_S_S16384x256 (constant S_ .f32 0x00000000#32))) (transpose S256x512 [1, 0] (L (Proc.devRef .tc main_arg8)) transposes_S512x256_S256x512_1_0)) (broadcastInDim S16384x512 ![0, 1] bcast_S1x512_S16384x512_0_1 (broadcastInDim S1x512 ![1] bcast_S512_S1x512_1 (L (Proc.devRef .tc main_arg9))))))))

/-- The result, as printed. -/
def res : FVec Ideal S16384x512 .f32 :=
  addf (L (Proc.devRef .tc main_arg0)) (select (broadcastInDim S16384x512 ![] bcast_S_S16384x512 (cmpi .sgt (res_main_v42 L) (constantI S_ 32 0#32))) (ret L) (broadcastInDim S16384x512 ![] bcast_S_S16384x512 (constant S_ .f32 0x00000000#32)))

/-- Where the row's similarity is finite, its attention is one. -/
theorem attn_apply (n : Fin 16384) (y : ℝ) (hy : res_main_v62 L (ix2 n (0 : Fin 1)) = (y : EReal)) : attn L (ix2 n (0 : Fin 1)) = 1 := by
  unfold attn
  refine Share.softmaxOne (N := 16384) (res_main_v68 L) _ _ _ n ?_
  unfold res_main_v68
  exact Share.expOne (N := 16384) (res_main_v62 L) _ _ _ _ n y hy

/-- Where the row's attention is one, what is read out is the readout of the memory row. -/
theorem ret_apply (n : Fin 16384) (h : Fin 512) (ha : attn L (ix2 n (0 : Fin 1)) = 1) :
    ret L (ix2 n h) = Model.readout (args L).r1 (args L).rb1 (args L).r2 (args L).rb2 (fun k => res_main_v60 L (ix1 k)) h := by
  unfold ret
  pointwise
  rw [ha]
  simp only [one_mul]
  rfl

/-- The similarity of a row and the memory row. -/
theorem sim_apply (n : Fin 16384) : res_main_v62 L (ix2 n (0 : Fin 1)) = ∑ k, (args L).x n k * (show EReal from res_main_v60 L (ix1 k)) := by
  unfold res_main_v62
  pointwise
  rfl

/-- Whether anything is read out: whether there is an event. -/
theorem any_apply (i : S16384x512.Idx) :
    broadcastInDim S16384x512 ![] bcast_S_S16384x512 (cmpi .sgt (res_main_v42 L) (constantI S_ 32 0#32)) i
      = BitVec.ofBool (decide (0 < Slots.events (on L))) := by
  have he : Slots.events (on L) < 2 ^ 31 := (Slots.events_le _).trans_lt (by norm_num)
  have hc : broadcastInDim S16384x512 ![] bcast_S_S16384x512 (cmpi .sgt (res_main_v42 L) (constantI S_ 32 0#32)) i
      = cmpi .sgt (res_main_v42 L) (constantI S_ 32 0#32) ValueIdx.ix0 :=
    congrArg (cmpi .sgt (res_main_v42 L) (constantI S_ 32 0#32)) (funext fun a : Fin 0 => a.elim0)
  rw [hc]
  show BitVec.ofBool ((0#32).slt (res_main_v42 L ValueIdx.ix0)) = _
  rw [count_apply]
  refine congrArg BitVec.ofBool ?_
  rw [BitVec.slt, StableHlo.Predicate.toInt_ofNat_small _ he]
  exact decide_eq_decide.2 Int.natCast_pos

/-- The result at a row and column: the row's own entry, and what is read out if there is an event. -/
theorem res_at (n : Fin 16384) (h : Fin 512) :
    res L (ix2 n h) = (args L).x n h + if 0 < Slots.events (on L) then (show EReal from ret L (ix2 n h)) else 0 := by
  unfold res
  show (args L).x n h + Scalar.select (broadcastInDim S16384x512 ![] bcast_S_S16384x512 (cmpi .sgt (res_main_v42 L) (constantI S_ 32 0#32)) (ix2 n h))
    (ret L (ix2 n h)) (broadcastInDim S16384x512 ![] bcast_S_S16384x512 (constant (F := Ideal) S_ .f32 0x00000000#32) (ix2 n h)) = _
  rw [any_apply]
  by_cases hev : 0 < Slots.events (on L)
  · rw [if_pos hev, decide_eq_true hev]; rfl
  · rw [if_neg hev, decide_eq_false hev]
    exact congrArg (fun t : EReal => (args L).x n h + t) Ideal.ofBits_zero_f32

/-- The floor under a total weight is a real number, no larger than an event's least weight. -/
theorem tiny_le : ∃ t : ℝ, Ideal.ofBits .f32 0x0DA24260#32 = (t : EReal) ∧ t ≤ Real.exp (-1) := by
  refine ⟨10633824 * (2 ^ 123)⁻¹, ?_, ?_⟩
  · simp [Ideal.ofBits, Ideal.ieee]
  · have h1 : Real.exp (-1) = Real.exp (-(1 / 2)) * Real.exp (-(1 / 2)) := by rw [← Real.exp_add]; norm_num
    have h2 : (1 / 2 : ℝ) ≤ Real.exp (-(1 / 2)) := le_trans (by norm_num) (Real.add_one_le_exp _)
    rw [h1]
    refine le_trans ?_ (mul_le_mul h2 h2 (by norm_num) (Real.exp_pos _).le)
    norm_num

/-- The stand-in for an empty slot's importance is below zero. -/
theorem lowest_neg : lowest < 0 := by
  unfold lowest
  simp [Ideal.ofBits, Ideal.ieee]
  refine EReal.mul_pos (EReal.coe_pos.2 (by norm_num)) ?_
  rw [← EReal.coe_pow]
  exact EReal.coe_pos.2 (by norm_num)

end Cert.ReferenceIdeal.Hand

end
-- ==== Proof.Equation.lean ====
/- The reference's result is the kernel's, where rows and importances are real and no importance is negative. -/
module

public import proofs.«01_k».proof.Proof.ReferenceOutput

@[expose] public section

set_option maxRecDepth 16384

noncomputable section

namespace Cert.ReferenceIdeal.Hand

open Idealize.ShloMosaic Idealize.ShloMosaic.TcCoe
open Cert.ReferenceIdeal Cert.ReferenceIdeal.Value Cert.ReferenceIdeal.Gen
open scoped BigOperators

variable (L : Valuation τ sig (Elt Ideal)) (r : Fin 16384 → ℝ) (X : Fin 16384 → Fin 512 → ℝ)

include r in
/-- The weight of a row, as the mathematics names it and as the kernel's result names it. -/
theorem rowWt_eq (hi : ∀ n, (args L).im n = (r n : EReal)) (i : Fin 16384) :
    Weights.rowWt (on L) (fun i => (r i : EReal)) i = (args L).wt i := by
  unfold Weights.rowWt Model.Args.wt
  rw [hi]
  by_cases h : on L i
  · rw [if_pos h, if_pos (show 0 < (args L).z i from h)]
  · rw [if_neg h, if_neg (show ¬ 0 < (args L).z i from h)]

include r in
/-- The rows have weight together exactly when one of them is an event. -/
theorem total_pos (hi : ∀ n, (args L).im n = (r n : EReal)) : 0 < ∑ n, (args L).wt n ↔ ∃ n, on L n := by
  have hpos : ∀ n, on L n → 0 < (args L).wt n := fun n h => by
    unfold Model.Args.wt
    rw [if_pos (show 0 < (args L).z n from h), hi, show (1 : EReal) = ((1 : ℝ) : EReal) from rfl, ← EReal.coe_sub, Weights.exp_coe]
    exact EReal.coe_pos.2 (Real.exp_pos _)
  have hzero : ∀ n, ¬ on L n → (args L).wt n = 0 := fun n h => by
    unfold Model.Args.wt
    exact if_neg h
  have hnn : ∀ n, 0 ≤ (args L).wt n := fun n => by
    by_cases h : on L n
    · exact (hpos n h).le
    · exact (hzero n h).ge
  constructor
  · intro h
    by_contra hno
    rw [Finset.sum_eq_zero fun n _ => hzero n fun hn => hno ⟨n, hn⟩] at h
    exact lt_irrefl _ h
  · rintro ⟨n, hn⟩
    exact (hpos n hn).trans_le (Finset.single_le_sum (f := (args L).wt) (fun i _ => hnn i) (Finset.mem_univ n))

/-- Where there is an event, the memory row is the weighted mean of the rows, and it is real. -/
theorem memory_eq (hr : ∀ n, 0 ≤ r n) (hi : ∀ n, (args L).im n = (r n : EReal)) (hX : ∀ n k, (args L).x n k = (X n k : EReal))
    (hev : ∃ n, on L n) (k : Fin 512) :
    res_main_v60 L (ix1 k) = (args L).mean k ∧ ∃ y : ℝ, (args L).mean k = (y : EReal) := by
  obtain ⟨t, ht, hle⟩ := tiny_le
  have h := Weights.mean_eq (P := 65536) (on L) (by norm_num) lowest lowest_neg t hle r (fun n => X n k) hr (imS L) (fun p => memS L p k)
    (fun i h p hp => (vec_at L _ _ h hp).trans (hi i)) (fun i h p hp => (row_at L _ _ h hp k).trans (hX i k)) hev
  have hm : Ideal.div (∑ i, Weights.rowWt (on L) (fun i => (r i : EReal)) i * (X i k : EReal))
      (max (∑ i, Weights.rowWt (on L) (fun i => (r i : EReal)) i) (t : EReal)) = (args L).mean k := by
    unfold Model.Args.mean
    simp only [rowWt_eq L r hi, ht, hX]
  rw [hm] at h
  refine ⟨?_, h.2⟩
  rw [memory_apply, ht]
  exact h.1

/-- The reference's result is the kernel's. -/
theorem res_eq (hr : ∀ n, 0 ≤ r n) (hi : ∀ n, (args L).im n = (r n : EReal)) (hX : ∀ n k, (args L).x n k = (X n k : EReal))
    (n : Fin 16384) (h : Fin 512) : res L (ix2 n h) = (args L).out n h := by
  rw [res_at]
  unfold Model.Args.out
  refine congrArg (fun t : EReal => (args L).x n h + t) ?_
  by_cases hev : ∃ n, on L n
  · rw [if_pos ((Slots.events_pos _).2 hev), if_pos ((total_pos L r hi).2 hev)]
    have hm := fun k => memory_eq L r X hr hi hX hev k
    choose Y hY using fun k => (hm k).2
    have hs : ∑ k, (args L).x n k * (show EReal from res_main_v60 L (ix1 k)) = ((∑ k, X n k * Y k : ℝ) : EReal) := by
      rw [Weights.coe_sum]
      refine Finset.sum_congr rfl fun k _ => ?_
      rw [EReal.coe_mul, hX, ← hY]
      exact congrArg (fun t : EReal => (X n k : EReal) * t) (hm k).1
    refine (ret_apply L n h (attn_apply L n _ ((sim_apply L n).trans hs))).trans ?_
    exact congrArg (fun c => Model.readout (args L).r1 (args L).rb1 (args L).r2 (args L).rb2 c h) (funext fun k => (hm k).1)
  · rw [if_neg fun hp => hev ((Slots.events_pos _).1 hp), if_neg fun hp => hev ((total_pos L r hi).1 hp)]

end Cert.ReferenceIdeal.Hand

end
-- ==== Proof.Precondition.lean ====
/- What the precondition says of the arguments: rows and importances are real, and no importance is negative. -/
module

public import proofs.«01_k».proof.Pre_finite_inputs
public import proofs.«01_k».proof.Proof.Gen.Pre_finite_inputs
public import Idealize.ShloMosaic.Lib.Pointwise
public import Idealize.ShloMosaic.Lib.IdealHost

@[expose] public section

noncomputable section

namespace Cert.Pre_finite_inputs.Hand

open Idealize.ShloMosaic Cert.Pre_finite_inputs

/-- The literal of infinity is the largest extended real. -/
theorem inf_lit : Ideal.ofBits .f32 0x7F800000#32 = ⊤ := by
  simp [Ideal.ofBits, Ideal.ieee]

/-- An extended real whose absolute value is below infinity is real. -/
theorem real_of_abs (x : EReal) (h : max x (-x) < ⊤) : ∃ y : ℝ, x = (y : EReal) := by
  induction x with
  | bot => simp at h
  | top => simp at h
  | coe y => exact ⟨y, rfl⟩

/-- An extended real from zero up and below infinity is real, and not negative. -/
theorem real_of_between (x : EReal) (h0 : 0 ≤ x) (h : x < ⊤) : ∃ y : ℝ, 0 ≤ y ∧ x = (y : EReal) := by
  induction x with
  | bot => simp at h0
  | top => simp at h
  | coe y => exact ⟨y, EReal.coe_nonneg.1 h0, rfl⟩

variable [Facts] (a0 : FVec Ideal S16384x512 .f32) (a1 : FVec Ideal S16384 .f32) (a2 : FVec Ideal S256x512 .f32) (a3 : FVec Ideal S256 .f32)
  (a4 : FVec Ideal S1x256 .f32) (a5 : FVec Ideal S1 .f32) (a6 : FVec Ideal S256x512 .f32) (a7 : FVec Ideal S256 .f32)
  (a8 : FVec Ideal S512x256 .f32) (a9 : FVec Ideal S512 .f32)

/-- The first half: every entry of the rows is real. -/
theorem rows_real (h : (fn a0 a1 a2 a3 a4 a5 a6 a7 a8 a9).1 = fun _ => 1#1) (i : S16384x512.Idx) : ∃ y : ℝ, a0 i = (y : EReal) := by
  have e : BitVec.ofBool (decide (max (a0 i : EReal) (-(a0 i : EReal)) < Ideal.ofBits .f32 0x7F800000#32)) = 1#1 := congrFun h i
  rw [inf_lit] at e
  refine real_of_abs _ ?_
  by_contra hn
  rw [decide_eq_false hn] at e
  exact absurd e (by decide)

/-- The second half: every importance is real and not negative. -/
theorem importance_real (h : (fn a0 a1 a2 a3 a4 a5 a6 a7 a8 a9).2 = fun _ => 1#1) (i : S16384.Idx) :
    ∃ y : ℝ, 0 ≤ y ∧ a1 i = (y : EReal) := by
  have e : BitVec.ofBool (decide (Ideal.ofBits .f32 0x00000000#32 ≤ (a1 i : EReal)))
      &&& BitVec.ofBool (decide ((a1 i : EReal) < Ideal.ofBits .f32 0x7F800000#32)) = 1#1 := congrFun h i
  rw [inf_lit, Ideal.ofBits_zero_f32] at e
  by_cases h0 : 0 ≤ (a1 i : EReal)
  · by_cases h1 : (a1 i : EReal) < ⊤
    · exact real_of_between _ h0 h1
    · rw [decide_eq_true h0, decide_eq_false h1] at e
      exact absurd e (by decide)
  · rw [decide_eq_false h0] at e
    by_cases h1 : (a1 i : EReal) < ⊤
    · rw [decide_eq_true h1] at e
      exact absurd e (by decide)
    · rw [decide_eq_false h1] at e
      exact absurd e (by decide)

end Cert.Pre_finite_inputs.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs
public import proofs.«01_k».proof.Proof.KernelFrame
public import proofs.«01_k».proof.Proof.KernelIdealFrame
public import proofs.«01_k».proof.Proof.KernelIdealBlocks
public import proofs.«01_k».proof.Proof.Equation
public import proofs.«01_k».proof.Proof.Precondition
public import Idealize.ShloMosaic.Adequacy
public import Idealize.ShloMosaic.Init

@[expose] public section

set_option maxRecDepth 16384

noncomputable section

namespace Cert.Proof

open Idealize.ShloMosaic Idealize.SL.Sem Cert.Kernel

/-- The kernel on words runs, leaves its arguments alone and returns every counter to zero. -/
theorem kernel_frame : Cert.quiescent_Kernel := fun m ρ _ =>
  (θ_run Cert.Kernel.defs _ _).mono (fun _ h => h.1) (Cert.Kernel.Hand.run_value m ρ)

/-- The same for the kernel over the extended reals. -/
theorem kernelIdeal_frame : Cert.quiescent_KernelIdeal := fun m ρ _ =>
  (θ_run Cert.KernelIdeal.defs _ _).mono (fun _ h => h.1) (Cert.KernelIdeal.Hand.run_value m ρ)

/-- The same for the reference over the extended reals, which has no semaphore at all. -/
theorem referenceIdeal_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The kernel's frame under the precondition is its frame without it. -/
theorem kernelIdeal_frame_pre : Cert.quiescent_KernelIdeal_pre_finite_inputs := fun m ρ _ => kernelIdeal_frame m ρ trivial

/-- The reference's frame under the precondition is its frame without it. -/
theorem referenceIdeal_frame_pre : Cert.quiescent_ReferenceIdeal_pre_finite_inputs := fun m ρ _ => referenceIdeal_frame m ρ trivial

/-- On finite rows and finite importances that are not negative, the reference's result on a device is the kernel's. -/
theorem result_eq (m : (ℓ : Loc Cert.KernelIdeal.nD Cert.KernelIdeal.τ Cert.KernelIdeal.sig) → Buf (Elt Ideal) ℓ)
    (L : Valuation Cert.ReferenceIdeal.τ Cert.ReferenceIdeal.sig (Elt Ideal)) (hpre : Cert.Pre_KernelIdeal_finite_inputs m)
    (c : Dev Cert.KernelIdeal.nD) (ha : Cert.ReferenceIdeal.Hand.args L = Cert.KernelIdeal.Hand.args m c) :
    Cert.ReferenceIdeal.Hand.res L = Cert.KernelIdeal.Hand.resArr m c := by
  have hx := Cert.Pre_finite_inputs.Hand.rows_real _ _ _ _ _ _ _ _ _ _ (hpre c).1
  have hi := Cert.Pre_finite_inputs.Hand.importance_real _ _ _ _ _ _ _ _ _ _ (hpre c).2
  choose X hX using fun (n : Fin 16384) (k : Fin 512) => hx (ix2 n k)
  choose r hr using fun (n : Fin 16384) => hi (ix1 n)
  funext i
  obtain ⟨n, h, rfl⟩ : ∃ (n : Fin 16384) (h : Fin 512), i = ix2 n h := ⟨_, _, eq_ix2 i⟩
  rw [Cert.ReferenceIdeal.Hand.res_eq L r X (fun n => (hr n).1) (fun n => by rw [ha]; exact (hr n).2) (fun n k => by rw [ha]; exact hX n k) n h, ha]
  exact (Cert.KernelIdeal.Hand.resArr_apply m c n h).symm

/-- Kernel and reference end with one result on every device. -/
theorem algebraic : Cert.algebraic_KernelIdeal_ReferenceIdeal_pre_finite_inputs := fun m g m' g' hpre hargs =>
  ⟨fun c => Cert.KernelIdeal.Hand.resArr m c,
   (θ_run Cert.KernelIdeal.defs _ _).mono (fun _ h c => ⟨h.2 c, h.1.1 c⟩) (Cert.KernelIdeal.Hand.run_value m g),
   (θ_run Cert.ReferenceIdeal.defs _ _).mono
    (fun r h c => ⟨(h c).1.trans (result_eq m (StableHlo.launchContents m' c) hpre c (by
      obtain ⟨h0, h1, h2, h3, h4, h5, h6, h7, h8, h9⟩ := hargs c
      exact Model.Args.mk.injEq .. |>.mpr ⟨funext fun n => funext fun k => congrFun h0 (ix2 n k), funext fun n => congrFun h1 (ix1 n),
        funext fun n => funext fun k => congrFun h2 (ix2 n k), funext fun n => congrFun h3 (ix1 n),
        funext fun n => congrFun h4 (ix2 (0 : Fin 1) n), congrFun h5 (ix1 (0 : Fin 1)),
        funext fun n => funext fun k => congrFun h6 (ix2 n k), funext fun n => congrFun h7 (ix1 n),
        funext fun n => funext fun k => congrFun h8 (ix2 n k), funext fun n => congrFun h9 (ix1 n)⟩)), (h c).2⟩)
    (Cert.ReferenceIdeal.Value.run m' g')⟩

/-- The claim: the three frames, with and without the precondition, the (empty) ledger of rewrites, and the equality of results. -/
theorem claim : Cert.Claim := ⟨Cert.Kernel.Gen.facts, Cert.KernelIdeal.Gen.facts, Cert.ReferenceIdeal.Gen.facts, Cert.Pre_finite_inputs.Gen.facts,
  kernel_frame, kernelIdeal_frame, kernelIdeal_frame_pre, referenceIdeal_frame, referenceIdeal_frame_pre, trivial, algebraic⟩

end Cert.Proof

end
